-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S1x256 : Shape := ⟨2, ![1, 256]⟩
abbrev S8x1x256 : Shape := ⟨3, ![8, 1, 256]⟩
abbrev S8 : Shape := ⟨1, ![8]⟩
abbrev S_ : Shape := ⟨0, ![]⟩
abbrev S256 : Shape := ⟨1, ![256]⟩
abbrev S1x1x256 : Shape := ⟨3, ![1, 1, 256]⟩
abbrev S1 : Shape := ⟨1, ![1]⟩

abbrev nBuf : Space → Nat
  | .hbm => 2
  | .vmem => 4
  | .smem => 0
  | _ => 0

abbrev bufTy : (tb : Table) → Fin (tcTables nBuf tb) → BufTy
  | .hbm, ⟨0, _⟩ => ⟨S512x256, .f32⟩
  | .hbm, ⟨1, _⟩ => ⟨S1x256, .f32⟩
  | .local _ .vmem, ⟨0, _⟩ => ⟨S512x256, .f32⟩
  | .local _ .vmem, ⟨1, _⟩ => ⟨S1x256, .f32⟩
  | .local _ .vmem, ⟨2, _⟩ => ⟨S1x256, .f32⟩
  | .local _ .vmem, ⟨3, _⟩ => ⟨S8x1x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v103 : Index := Scalar.indexCast v2
  let c0_68 : Index := 0#32
  let c0_69 : Index := 0#32
  ![v103.toNat, 0, 0]
def k0_off2 (d0 : Dev nD) (c1_i32_71 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v107 : BitVec 32 := Scalar.addi v2 c1_i32_71
  let c8_i32_72 : BitVec 32 := 8#32
  let c0_i32_73 : BitVec 32 := 0#32
  let v108 : BitVec 1 := Scalar.cmpi .eq c8_i32_72 c0_i32_73
  let c1_i32_74 : BitVec 32 := 1#32
  let v109 : BitVec 32 := Scalar.select v108 c1_i32_74 c8_i32_72
  let v110 : BitVec 32 := Scalar.remsi v107 v109
  let c0_i32_76 : BitVec 32 := 0#32
  let v112 : BitVec 1 := Scalar.cmpi .slt v110 c0_i32_76
  let c0_i32_77 : BitVec 32 := 0#32
  let v113 : BitVec 1 := Scalar.cmpi .slt v109 c0_i32_77
  let v114 : BitVec 1 := Scalar.xori v112 v113
  let c0_i32_75 : BitVec 32 := 0#32
  let v111 : BitVec 1 := Scalar.cmpi .ne v110 c0_i32_75
  let v115 : BitVec 1 := Scalar.andi v114 v111
  let v116 : BitVec 32 := Scalar.addi v110 v109
  let v117 : BitVec 32 := Scalar.select v115 v116 v110
  ![v117.toNat]
def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_80 : BitVec 32 := 0#32
  let c0_i32_81 : BitVec 32 := 0#32
  ![v2.toNat, 0, 0]
def k0_dev8 (d0 : Dev nD) : Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_71 : BitVec 32 := 1#32
  let v107 : BitVec 32 := Scalar.addi v2 c1_i32_71
  let c8_i32_72 : BitVec 32 := 8#32
  let c0_i32_73 : BitVec 32 := 0#32
  let v108 : BitVec 1 := Scalar.cmpi .eq c8_i32_72 c0_i32_73
  let c1_i32_74 : BitVec 32 := 1#32
  let v109 : BitVec 32 := Scalar.select v108 c1_i32_74 c8_i32_72
  let v110 : BitVec 32 := Scalar.remsi v107 v109
  let c0_i32_76 : BitVec 32 := 0#32
  let v112 : BitVec 1 := Scalar.cmpi .slt v110 c0_i32_76
  let c0_i32_77 : BitVec 32 := 0#32
  let v113 : BitVec 1 := Scalar.cmpi .slt v109 c0_i32_77
  let v114 : BitVec 1 := Scalar.xori v112 v113
  let c0_i32_75 : BitVec 32 := 0#32
  let v111 : BitVec 1 := Scalar.cmpi .ne v110 c0_i32_75
  let v115 : BitVec 1 := Scalar.andi v114 v111
  let v116 : BitVec 32 := Scalar.addi v110 v109
  let v117 : BitVec 32 := Scalar.select v115 v116 v110
  let c1_i32_78 : BitVec 32 := 1#32
  let v118 : BitVec 32 := Scalar.muli v117 c1_i32_78
  let v119 : BitVec 32 := Scalar.addi c0_i32_79 v118
  v119.toNat
def k0_dev9 (d0 : Dev nD) : Nat :=
  let c0_i32_90 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_82 : BitVec 32 := 2#32
  let v126 : BitVec 32 := Scalar.addi v2 c2_i32_82
  let c8_i32_83 : BitVec 32 := 8#32
  let c0_i32_84 : BitVec 32 := 0#32
  let v127 : BitVec 1 := Scalar.cmpi .eq c8_i32_83 c0_i32_84
  let c1_i32_85 : BitVec 32 := 1#32
  let v128 : BitVec 32 := Scalar.select v127 c1_i32_85 c8_i32_83
  let v129 : BitVec 32 := Scalar.remsi v126 v128
  let c0_i32_87 : BitVec 32 := 0#32
  let v131 : BitVec 1 := Scalar.cmpi .slt v129 c0_i32_87
  let c0_i32_88 : BitVec 32 := 0#32
  let v132 : BitVec 1 := Scalar.cmpi .slt v128 c0_i32_88
  let v133 : BitVec 1 := Scalar.xori v131 v132
  let c0_i32_86 : BitVec 32 := 0#32
  let v130 : BitVec 1 := Scalar.cmpi .ne v129 c0_i32_86
  let v134 : BitVec 1 := Scalar.andi v133 v130
  let v135 : BitVec 32 := Scalar.addi v129 v128
  let v136 : BitVec 32 := Scalar.select v134 v135 v129
  let c1_i32_89 : BitVec 32 := 1#32
  let v137 : BitVec 32 := Scalar.muli v136 c1_i32_89
  let v138 : BitVec 32 := Scalar.addi c0_i32_90 v137
  v138.toNat
def k0_dev10 (d0 : Dev nD) : Nat :=
  let c0_i32_101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_93 : BitVec 32 := 3#32
  let v145 : BitVec 32 := Scalar.addi v2 c3_i32_93
  let c8_i32_94 : BitVec 32 := 8#32
  let c0_i32_95 : BitVec 32 := 0#32
  let v146 : BitVec 1 := Scalar.cmpi .eq c8_i32_94 c0_i32_95
  let c1_i32_96 : BitVec 32 := 1#32
  let v147 : BitVec 32 := Scalar.select v146 c1_i32_96 c8_i32_94
  let v148 : BitVec 32 := Scalar.remsi v145 v147
  let c0_i32_98 : BitVec 32 := 0#32
  let v150 : BitVec 1 := Scalar.cmpi .slt v148 c0_i32_98
  let c0_i32_99 : BitVec 32 := 0#32
  let v151 : BitVec 1 := Scalar.cmpi .slt v147 c0_i32_99
  let v152 : BitVec 1 := Scalar.xori v150 v151
  let c0_i32_97 : BitVec 32 := 0#32
  let v149 : BitVec 1 := Scalar.cmpi .ne v148 c0_i32_97
  let v153 : BitVec 1 := Scalar.andi v152 v149
  let v154 : BitVec 32 := Scalar.addi v148 v147
  let v155 : BitVec 32 := Scalar.select v153 v154 v148
  let c1_i32_100 : BitVec 32 := 1#32
  let v156 : BitVec 32 := Scalar.muli v155 c1_i32_100
  let v157 : BitVec 32 := Scalar.addi c0_i32_101 v156
  v157.toNat
def k0_dev11 (d0 : Dev nD) : Nat :=
  let c0_i32_112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_104 : BitVec 32 := 4#32
  let v164 : BitVec 32 := Scalar.addi v2 c4_i32_104
  let c8_i32_105 : BitVec 32 := 8#32
  let c0_i32_106 : BitVec 32 := 0#32
  let v165 : BitVec 1 := Scalar.cmpi .eq c8_i32_105 c0_i32_106
  let c1_i32_107 : BitVec 32 := 1#32
  let v166 : BitVec 32 := Scalar.select v165 c1_i32_107 c8_i32_105
  let v167 : BitVec 32 := Scalar.remsi v164 v166
  let c0_i32_109 : BitVec 32 := 0#32
  let v169 : BitVec 1 := Scalar.cmpi .slt v167 c0_i32_109
  let c0_i32_110 : BitVec 32 := 0#32
  let v170 : BitVec 1 := Scalar.cmpi .slt v166 c0_i32_110
  let v171 : BitVec 1 := Scalar.xori v169 v170
  let c0_i32_108 : BitVec 32 := 0#32
  let v168 : BitVec 1 := Scalar.cmpi .ne v167 c0_i32_108
  let v172 : BitVec 1 := Scalar.andi v171 v168
  let v173 : BitVec 32 := Scalar.addi v167 v166
  let v174 : BitVec 32 := Scalar.select v172 v173 v167
  let c1_i32_111 : BitVec 32 := 1#32
  let v175 : BitVec 32 := Scalar.muli v174 c1_i32_111
  let v176 : BitVec 32 := Scalar.addi c0_i32_112 v175
  v176.toNat
def k0_dev12 (d0 : Dev nD) : Nat :=
  let c0_i32_123 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_115 : BitVec 32 := 5#32
  let v183 : BitVec 32 := Scalar.addi v2 c5_i32_115
  let c8_i32_116 : BitVec 32 := 8#32
  let c0_i32_117 : BitVec 32 := 0#32
  let v184 : BitVec 1 := Scalar.cmpi .eq c8_i32_116 c0_i32_117
  let c1_i32_118 : BitVec 32 := 1#32
  let v185 : BitVec 32 := Scalar.select v184 c1_i32_118 c8_i32_116
  let v186 : BitVec 32 := Scalar.remsi v183 v185
  let c0_i32_120 : BitVec 32 := 0#32
  let v188 : BitVec 1 := Scalar.cmpi .slt v186 c0_i32_120
  let c0_i32_121 : BitVec 32 := 0#32
  let v189 : BitVec 1 := Scalar.cmpi .slt v185 c0_i32_121
  let v190 : BitVec 1 := Scalar.xori v188 v189
  let c0_i32_119 : BitVec 32 := 0#32
  let v187 : BitVec 1 := Scalar.cmpi .ne v186 c0_i32_119
  let v191 : BitVec 1 := Scalar.andi v190 v187
  let v192 : BitVec 32 := Scalar.addi v186 v185
  let v193 : BitVec 32 := Scalar.select v191 v192 v186
  let c1_i32_122 : BitVec 32 := 1#32
  let v194 : BitVec 32 := Scalar.muli v193 c1_i32_122
  let v195 : BitVec 32 := Scalar.addi c0_i32_123 v194
  v195.toNat
def k0_dev13 (d0 : Dev nD) : Nat :=
  let c0_i32_134 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_126 : BitVec 32 := 6#32
  let v202 : BitVec 32 := Scalar.addi v2 c6_i32_126
  let c8_i32_127 : BitVec 32 := 8#32
  let c0_i32_128 : BitVec 32 := 0#32
  let v203 : BitVec 1 := Scalar.cmpi .eq c8_i32_127 c0_i32_128
  let c1_i32_129 : BitVec 32 := 1#32
  let v204 : BitVec 32 := Scalar.select v203 c1_i32_129 c8_i32_127
  let v205 : BitVec 32 := Scalar.remsi v202 v204
  let c0_i32_131 : BitVec 32 := 0#32
  let v207 : BitVec 1 := Scalar.cmpi .slt v205 c0_i32_131
  let c0_i32_132 : BitVec 32 := 0#32
  let v208 : BitVec 1 := Scalar.cmpi .slt v204 c0_i32_132
  let v209 : BitVec 1 := Scalar.xori v207 v208
  let c0_i32_130 : BitVec 32 := 0#32
  let v206 : BitVec 1 := Scalar.cmpi .ne v205 c0_i32_130
  let v210 : BitVec 1 := Scalar.andi v209 v206
  let v211 : BitVec 32 := Scalar.addi v205 v204
  let v212 : BitVec 32 := Scalar.select v210 v211 v205
  let c1_i32_133 : BitVec 32 := 1#32
  let v213 : BitVec 32 := Scalar.muli v212 c1_i32_133
  let v214 : BitVec 32 := Scalar.addi c0_i32_134 v213
  v214.toNat
def k0_dev14 (d0 : Dev nD) : Nat :=
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_137 : BitVec 32 := 7#32
  let v221 : BitVec 32 := Scalar.addi v2 c7_i32_137
  let c8_i32_138 : BitVec 32 := 8#32
  let c0_i32_139 : BitVec 32 := 0#32
  let v222 : BitVec 1 := Scalar.cmpi .eq c8_i32_138 c0_i32_139
  let c1_i32_140 : BitVec 32 := 1#32
  let v223 : BitVec 32 := Scalar.select v222 c1_i32_140 c8_i32_138
  let v224 : BitVec 32 := Scalar.remsi v221 v223
  let c0_i32_142 : BitVec 32 := 0#32
  let v226 : BitVec 1 := Scalar.cmpi .slt v224 c0_i32_142
  let c0_i32_143 : BitVec 32 := 0#32
  let v227 : BitVec 1 := Scalar.cmpi .slt v223 c0_i32_143
  let v228 : BitVec 1 := Scalar.xori v226 v227
  let c0_i32_141 : BitVec 32 := 0#32
  let v225 : BitVec 1 := Scalar.cmpi .ne v224 c0_i32_141
  let v229 : BitVec 1 := Scalar.andi v228 v225
  let v230 : BitVec 32 := Scalar.addi v224 v223
  let v231 : BitVec 32 := Scalar.select v229 v230 v224
  let c1_i32_144 : BitVec 32 := 1#32
  let v232 : BitVec 32 := Scalar.muli v231 c1_i32_144
  let v233 : BitVec 32 := Scalar.addi c0_i32_145 v232
  v233.toNat
def k0_off5 (d0 : Dev nD) (c1_i32_148 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v240 : BitVec 32 := Scalar.addi v2 c1_i32_148
  let c8_i32_149 : BitVec 32 := 8#32
  let c0_i32_150 : BitVec 32 := 0#32
  let v241 : BitVec 1 := Scalar.cmpi .eq c8_i32_149 c0_i32_150
  let c1_i32_151 : BitVec 32 := 1#32
  let v242 : BitVec 32 := Scalar.select v241 c1_i32_151 c8_i32_149
  let v243 : BitVec 32 := Scalar.remsi v240 v242
  let c0_i32_153 : BitVec 32 := 0#32
  let v245 : BitVec 1 := Scalar.cmpi .slt v243 c0_i32_153
  let c0_i32_154 : BitVec 32 := 0#32
  let v246 : BitVec 1 := Scalar.cmpi .slt v242 c0_i32_154
  let v247 : BitVec 1 := Scalar.xori v245 v246
  let c0_i32_152 : BitVec 32 := 0#32
  let v244 : BitVec 1 := Scalar.cmpi .ne v243 c0_i32_152
  let v248 : BitVec 1 := Scalar.andi v247 v244
  let v249 : BitVec 32 := Scalar.addi v243 v242
  let v250 : BitVec 32 := Scalar.select v248 v249 v243
  let c0_i32_157 : BitVec 32 := 0#32
  let c0_i32_158 : BitVec 32 := 0#32
  ![v250.toNat, 0, 0]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x256 : Shape := ⟨2, ![4096, 256]⟩
abbrev S_ : Shape := ⟨0, ![]⟩
abbrev S256 : Shape := ⟨1, ![256]⟩
abbrev S1x256 : Shape := ⟨2, ![1, 256]⟩

abbrev nBuf : Space → Nat
  | .hbm => 4
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S_, .f32⟩
  | .hbm, ⟨2, _⟩ => ⟨S256, .f32⟩
  | .hbm, ⟨3, _⟩ => ⟨S1x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.GeoKernelIdeal.lean ====
/-
# The exchange's geometry

Eight devices; device `c` and its seven peers `c + 1, …, c + 7` (mod 8). Each device holds an accumulator row (`aM`) and a
receive buffer of eight rows (`rM`); row `t` (`slotM t`) is filled by device `t`. The semaphores are the barrier semaphore,
eight send semaphores and eight receive semaphores. This module names them and relates the printed offsets and device
numbers to the names.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Pipeline.ValueKit.Geometry
public import Idealize.ShloMosaic.Lib.ViewIndex
public import Idealize.ShloMosaic.Lib.Tactic

@[expose] public section

noncomputable section

namespace Cert.KernelIdeal.Ex

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Peers -/

set_option backward.proofsInPublic true in
/-- The `j`-th peer of device `c`: the device `j + 1` places after it, around the eight. -/
def peer (c : Dev nD) (j : Fin 7) : Dev nD := ⟨(c.val + (j.val + 1)) % 8, Nat.mod_lt _ (by decide)⟩

/-- A device's seven peers are different. -/
theorem peer_inj (c : Dev nD) : Function.Injective (peer c) := by
  revert c; decide

/-- The peers of `c` as an embedding of the seven places. -/
def peerEmb (c : Dev nD) : Fin 7 ↪ Dev nD := ⟨peer c, peer_inj c⟩

/-- A device is not its own peer; -/
theorem peer_ne (c : Dev nD) (j : Fin 7) : peer c j ≠ c := by revert c j; decide
/-- the same, the other way round. -/
theorem ne_peer (c : Dev nD) (j : Fin 7) : c ≠ peer c j := (peer_ne c j).symm

/-- The devices are `c` and its peers. -/
theorem univ_peers (c : Dev nD) : (Finset.univ : Finset (Dev nD)) = insert c (Finset.univ.map (peerEmb c)) := by
  revert c; decide
/-- A device is not among its peers. -/
theorem not_mem_peers (c : Dev nD) : c ∉ (Finset.univ : Finset (Fin 7)).map (peerEmb c) := by
  revert c; decide
/-- A peer is among the peers. -/
theorem mem_peers (c : Dev nD) (j : Fin 7) : peer c j ∈ (Finset.univ : Finset (Fin 7)).map (peerEmb c) :=
  Finset.mem_map.mpr ⟨j, Finset.mem_univ _, rfl⟩

/-- The place of `c` among the peers of its own `j`-th peer. -/
def back (j : Fin 7) : Fin 7 := ⟨6 - j.val, by omega⟩
/-- A device is the peer, at that place, of its own peer. -/
theorem peer_back (c : Dev nD) (j : Fin 7) : peer (peer c j) (back j) = c := by revert c j; decide

/-! ## The printed device numbers and offsets -/

/-- The seven signals go to the seven peers, in order. -/
theorem sigDev (c : Dev nD) : (⟨k0_dev1 c, k0_dev1_lt c⟩ : Dev nD) = peer c 0 ∧ (⟨k0_dev2 c, k0_dev2_lt c⟩ : Dev nD) = peer c 1
    ∧ (⟨k0_dev3 c, k0_dev3_lt c⟩ : Dev nD) = peer c 2 ∧ (⟨k0_dev4 c, k0_dev4_lt c⟩ : Dev nD) = peer c 3
    ∧ (⟨k0_dev5 c, k0_dev5_lt c⟩ : Dev nD) = peer c 4 ∧ (⟨k0_dev6 c, k0_dev6_lt c⟩ : Dev nD) = peer c 5
    ∧ (⟨k0_dev7 c, k0_dev7_lt c⟩ : Dev nD) = peer c 6 := by
  revert c; decide +kernel
/-- The seven copies go to the seven peers, in order. -/
theorem sendDev (c : Dev nD) : (⟨k0_dev8 c, k0_dev8_lt c⟩ : Dev nD) = peer c 0 ∧ (⟨k0_dev9 c, k0_dev9_lt c⟩ : Dev nD) = peer c 1
    ∧ (⟨k0_dev10 c, k0_dev10_lt c⟩ : Dev nD) = peer c 2 ∧ (⟨k0_dev11 c, k0_dev11_lt c⟩ : Dev nD) = peer c 3
    ∧ (⟨k0_dev12 c, k0_dev12_lt c⟩ : Dev nD) = peer c 4 ∧ (⟨k0_dev13 c, k0_dev13_lt c⟩ : Dev nD) = peer c 5
    ∧ (⟨k0_dev14 c, k0_dev14_lt c⟩ : Dev nD) = peer c 6 := by
  revert c; decide +kernel

/-- Row `t` of the receive buffer starts at `(t, 0, 0)`; semaphore `t` of an array at `t`. -/
abbrev rowOff (t : Dev nD) : Fin 3 → ℕ := ![t.val, 0, 0]
/-- Where semaphore `t` of an array starts. -/
abbrev semOff (t : Dev nD) : Fin 1 → ℕ := ![t.val]

/-- Every row lies in the receive buffer. -/
theorem rowOff_inb (t : Dev nD) : ∀ a, rowOff t a + S1x1x256.size a ≤ S8x1x256.size a := by revert t; decide
/-- Every semaphore lies in its array. -/
theorem semOff_inb (t : Dev nD) : ∀ a, semOff t a + S1.size a ≤ S8.size a := by revert t; decide

/-- The semaphore that the `j`-th transfer names is the `j`-th peer's. -/
theorem off2_eq (c : Dev nD) (j : Fin 7) : k0_off2 c (BitVec.ofNat 32 (1 + j.val)) = semOff (peer c j) := by
  revert c j; decide +kernel
/-- The row that the `j`-th wait names is the `j`-th peer's. -/
theorem off5_eq (c : Dev nD) (j : Fin 7) : k0_off5 c (BitVec.ofNat 32 (1 + j.val)) = rowOff (peer c j) := by
  revert c j; decide +kernel

/-! ## Memrefs -/

/-- The input block. -/
abbrev xM : Memref sig .tc .vmem S512x256 .f32 := Memref.whole cc0_stg0_0
/-- The result buffer. -/
abbrev oM : Memref sig .tc .vmem S1x256 .f32 := Memref.whole cc0_stg1_0
/-- The accumulator. -/
abbrev aM : Memref sig .tc .vmem S1x256 .f32 := Memref.whole cc0_scratch0
/-- The receive buffer. -/
abbrev rM : Memref sig .tc .vmem S8x1x256 .f32 := Memref.whole cc0_scratch1

/-- Row `t` of the receive buffer, as a rectangle. -/
abbrev rowR (t : Dev nD) : Rect S8x1x256 := Rect.unit (s := S8x1x256) (rowOff t) S1x1x256.size (rowOff_inb t)

/-- Row `t` of the receive buffer, as the transfers address it. -/
abbrev slotM (t : Dev nD) : Memref sig .tc .vmem S1x256 .f32 :=
  ((rM : Memref sig .tc .vmem S8x1x256 .f32).slice (rowR t) (fun _ => rfl)).squeeze S1x256 squeezes_S1x1x256_S1x256

/-- Semaphore `t` of an array of eight. -/
abbrev semAt (a : DmaSems sig S8) (t : Dev nD) : DmaSem sig :=
  ((a.slice (Rect.unit (s := S8) (semOff t) S1.size (semOff_inb t))).squeeze S_ squeezes_S1_S_).sem

/-! ## Semaphores and cells -/

/-- The barrier semaphore. -/
abbrev barS : Sem sig := (SemArray.scalar (sig.barrier 0 rfl) : Sems sig S_).sem

/-- The cells of a device: its barrier (`none`), its send semaphore `t` (`some (false, t)`), its receive semaphore `t`
    (`some (true, t)`). -/
abbrev CIx : Type := Option (Bool × Dev nD)

/-- The semaphore under a cell's name. -/
def csem : CIx → SemLoc sig
  | none => .reg barS
  | some (false, t) => .dma (semAt cc0_scratch2 t)
  | some (true, t) => .dma (semAt cc0_scratch3 t)

/-- The name of the cell a semaphore is, if it is one. -/
def kindOf : SemLoc sig → Option CIx
  | .reg _ => some none
  | .dma q => if h : 10 ≤ q.val then some (some (true, ⟨q.val - 10, by have := q.isLt; change q.val < 18 at this; show q.val - 10 < 8; omega⟩))
      else if h : 2 ≤ q.val then some (some (false, ⟨q.val - 2, by show q.val - 2 < 8; omega⟩)) else none

/-- The number of send semaphore `t`. -/
theorem semAt_send (t : Dev nD) : (semAt cc0_scratch2 t).val = t.val + 2 := by revert t; decide
/-- The number of receive semaphore `t`. -/
theorem semAt_recv (t : Dev nD) : (semAt cc0_scratch3 t).val = t.val + 10 := by revert t; decide

/-- A cell's semaphore has that cell's name. -/
theorem kindOf_csem (k : CIx) : kindOf (csem k) = some k := by revert k; decide

/-- Different cells of a device have different semaphores. -/
theorem csem_injective : Function.Injective csem := fun a b h => by
  have := congrArg kindOf h
  rw [kindOf_csem, kindOf_csem] at this
  exact Option.some.inj this

/-- A device's cell. -/
abbrev kcell (ck : Dev nD × CIx) : GSem nD τ sig := ((ck.1 : Thread nD τ), csem ck.2)
/-- A device's barrier cell. -/
abbrev barCell (c : Dev nD) : GSem nD τ sig := kcell (c, none)
/-- A device's send cell `t`. -/
abbrev sendCell (c t : Dev nD) : GSem nD τ sig := kcell (c, some (false, t))
/-- A device's receive cell `t`. -/
abbrev recvCell (c t : Dev nD) : GSem nD τ sig := kcell (c, some (true, t))

/-- Different devices or names have different cells. -/
theorem kcell_injective : Function.Injective (kcell : Dev nD × CIx → GSem nD τ sig) := by
  rintro ⟨c, k⟩ ⟨c', k'⟩ h
  have h1 : c = c' := congrArg (fun g : GSem nD τ sig => g.1.1) h
  subst h1
  have h2 : k = k' := csem_injective (congrArg Prod.snd h)
  subst h2; rfl

/-- Two cells are equal exactly when device and name are. -/
theorem kcell_eq_iff {a b : Dev nD × CIx} : kcell a = kcell b ↔ a = b := kcell_injective.eq_iff

/-- The credit of one row's transfer. -/
abbrev N : ℕ := (aM : Memref sig .tc .vmem S1x256 .f32).view.dmaCredit
/-- That credit is positive. -/
theorem N_pos : 0 < N := View.dmaCredit_pos _ (by decide)
/-- A row of the receive buffer carries the same credit. -/
theorem slot_credit (t : Dev nD) : (slotM t : Memref sig .tc .vmem S1x256 .f32).view.dmaCredit = N := by
  revert t; decide

/-! ## Rows -/

/-- The elements of the receive buffer's row `t`. -/
abbrev slotSet (t : Dev nD) : Finset S8x1x256.Idx := (slotM t : Memref sig .tc .vmem S1x256 .f32).view.set

/-- An element lies in row `t` exactly when its first coordinate is `t`. -/
theorem mem_slot (t : Dev nD) (i : S8x1x256.Idx) : i ∈ slotSet t ↔ (i 0).val = t.val := by
  have h : slotSet t = (rowR t).set := by
    unfold slotSet
    rw [Memref.set_view_squeeze]
    exact View.set_slice_whole _ _
  rw [h, Rect.mem_set_unit]
  constructor
  · intro hi; have h0 := hi 0
    change t.val ≤ (i 0).val ∧ (i 0).val < t.val + 1 at h0
    omega
  · intro hi a
    have ha := (i a).isLt
    fin_cases a
    · show t.val ≤ (i 0).val ∧ (i 0).val < t.val + 1
      omega
    · exact ⟨Nat.zero_le _, by simpa using ha⟩
    · exact ⟨Nat.zero_le _, by simpa using ha⟩

/-- Different rows share no element. -/
theorem slot_disjoint (t t' : Dev nD) (h : t ≠ t') :
    Disjoint (slotSet t) (slotSet t') := by
  refine Finset.disjoint_left.mpr fun i h1 h2 => h (Fin.ext ?_)
  rw [← (mem_slot t i).mp h1, ← (mem_slot t' i).mp h2]

/-- The rows make up the buffer. -/
theorem slot_cover : Finset.univ.biUnion slotSet = Finset.univ := by
  refine Finset.eq_univ_iff_forall.mpr fun i => Finset.mem_biUnion.mpr ⟨⟨(i 0).val, (i 0).isLt⟩, Finset.mem_univ _, ?_⟩
  exact (mem_slot _ i).mpr rfl

/-! ## Separating conjunctions over peers -/

section Sep
variable {M : Type} [URA M]

/-- A conjunction over the devices is `c`'s part and one part per peer. -/
theorem bigSep_peers (c : Dev nD) (Φ : Dev nD → sProp M) :
    bigSep Finset.univ Φ = iprop(Φ c ∗ bigSep Finset.univ fun j : Fin 7 => Φ (peer c j)) := by
  rw [univ_peers c, BI.bigSep_insert (not_mem_peers c), bigSep_map]; rfl

/-- Seven parts written out. -/
theorem bigSep_seven (Φ : Fin 7 → sProp M) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

end Sep

end Cert.KernelIdeal.Ex

end
-- ==== Proof.SchedKernelIdeal.lean ====
/-
# The exchange's contents and schedule

What each buffer holds at each step, and the protocol: which device adds to which semaphore, how much, and what memory the
waiter receives with it. One round: a device's barrier semaphore gets one unit from each of its seven peers, and with peer
`d`'s unit the right to write row `c` of `d`'s receive buffer; receive semaphore `t` gets the credit of the row sent by
device `t`, with row `t` holding `t`'s maxima; send semaphore `t` the credit of the row sent to `t`, with the share of the
accumulator lent to that transfer.
-/
module

public import proofs.«01_k».proof.Proof.GeoKernelIdeal
public import Idealize.ShloMosaic.Lib.Ring

@[expose] public section

noncomputable section

namespace Cert.KernelIdeal.Ex

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks)
open Idealize.ShloMosaic.Ring (pointsTo_blocks)
open Idealize.ShloMosaic.Pipeline (Dat Cfg Window BodyObligation cellOf)

variable {F : FTy → Type} [FloatOps F]

/-! ## The resource algebra: the launch library's copy and the exchange's -/

/-- The exchange's part. -/
abbrev UB : Type := URounds (GSem nD τ sig) (Dev nD)
/-- Both parts. -/
abbrev UU : Type := UR sig nD τ × UB

local notation "𝕄" => MT nD τ sig Unit (Elt F) ℕ UU ℕ

/-- Where the pipeline's part lies. -/
abbrev EP : Emb (UR sig nD τ) (MT nD τ sig Unit (Elt F) ℕ UU ℕ) := embL
/-- Where the exchange's part lies. -/
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Contents -/

/-- Device `c`'s block of the input, as its staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

/-- Device `c`'s column maxima over its block. -/
def acc (c : Dev nD) : (cc0_scratch0 : Ref sig .tc).ty.Contents (Elt F) := k0_pay2 (k0_pay1 (xstg m ρ c))

/-- An element of the receive buffer, as an element of its row. -/
def rowIx (i : S8x1x256.Idx) : S1x1x256.Idx := fun a => match a with
  | ⟨0, _⟩ => ⟨0, Nat.one_pos⟩
  | ⟨1, _⟩ => ⟨(i 1).val, (i 1).isLt⟩
  | ⟨2, _⟩ => ⟨(i 2).val, (i 2).isLt⟩

/-- The receive buffer when every row has arrived: row `t` holds device `t`'s column maxima, the same on every device. -/
def gath : (cc0_scratch1 : Ref sig .tc).ty.Contents (Elt F) :=
  fun i : S8x1x256.Idx => k0_pay3 (acc m ρ ⟨(i 0).val, (i 0).isLt⟩) (rowIx i)

/-- The result: the maximum over the rows. -/
def outAt : (cc0_stg1_0 : Ref sig .tc).ty.Contents (Elt F) := k0_pay4 (gath m ρ)

/-- Row `t` read off the full receive buffer is device `t`'s row. -/
theorem gath_row (t : Dev nD) (x : S1x1x256.Idx) : gath m ρ ((rowR t).emb x) = k0_pay3 (acc m ρ t) x := by
  have h0 : (((rowR t).emb x) 0).val = t.val := by
    rw [Rect.emb_apply]
    have := (x 0).isLt
    change (x 0).val < 1 at this
    show t.val + 1 * (x 0).val = t.val
    omega
  have hx : rowIx ((rowR t).emb x) = x := by
    funext a
    refine Fin.ext ?_
    match a with
    | ⟨0, _⟩ =>
      have := (x 0).isLt
      change (x 0).val < 1 at this
      show 0 = (x 0).val
      omega
    | ⟨1, _⟩ =>
      show (((rowR t).emb x) 1).val = (x 1).val
      rw [Rect.emb_apply]; show 0 + 1 * (x 1).val = _; omega
    | ⟨2, _⟩ =>
      show (((rowR t).emb x) 2).val = (x 2).val
      rw [Rect.emb_apply]; show 0 + 1 * (x 2).val = _; omega
  have ht : (⟨(((rowR t).emb x) 0).val, (((rowR t).emb x) 0).isLt⟩ : Dev nD) = t := Fin.ext h0
  show k0_pay3 (acc m ρ ⟨(((rowR t).emb x) 0).val, _⟩) (rowIx ((rowR t).emb x)) = _
  rw [hx]; exact congrArg (fun d => k0_pay3 (acc m ρ d) x) ht

omit [FloatOps F] in
/-- Writing through a view what it reads off some contents leaves those contents where the view looks. -/
theorem write_read {κ : Kind} {sp : Space} {s : Shape} {e : EltTy} (v : View sig κ sp s e) (f f' : v.ty.Contents (Elt F)) {i} (hi : i ∈ v.set) :
    v.write (Elt F) f (v.read (Elt F) f') Finset.univ i = f' i := by
  obtain ⟨y, rfl⟩ := View.exists_emb_of_mem_set v hi
  rw [View.write_emb_of_mem _ _ (Finset.mem_univ y), View.read_apply, cast_cast, cast_eq]

omit [FloatOps F] in
/-- A load of row `t` reads the buffer's elements of row `t`. -/
theorem read_row (t : Dev nD) (f : (cc0_scratch1 : Ref sig .tc).ty.Contents (Elt F)) :
    (rM : Memref sig .tc .vmem S8x1x256 .f32).view.readAt (Elt F) (rowR t).toLoadRect f = fun x => f ((rowR t).emb x) := rfl

/-- A row that received device `t`'s maxima holds what the full buffer holds there. -/
theorem landed_row (t : Dev nD) (fd : (cc0_scratch1 : Ref sig .tc).ty.Contents (Elt F)) (i : S8x1x256.Idx) (hi : i ∈ slotSet t) :
    (slotM t : Memref sig .tc .vmem S1x256 .f32).view.write (Elt F) fd ((aM : Memref sig .tc .vmem S1x256 .f32).view.read (Elt F) (acc m ρ t)) Finset.univ i
      = gath m ρ i := by
  have hr : (slotM t : Memref sig .tc .vmem S1x256 .f32).view.read (Elt F) (gath m ρ) = acc m ρ t := by
    refine (Memref.read_squeeze_slice (rM : Memref sig .tc .vmem S8x1x256 .f32) (rowR t) (fun _ => rfl) squeezes_S1x1x256_S1x256 shapeCasts_S1x1x256_S1x256 (gath m ρ)).trans ?_
    have h1 : (rM : Memref sig .tc .vmem S8x1x256 .f32).view.readAt (Elt F) (rowR t).toLoadRect (gath m ρ) = k0_pay3 (acc m ρ t) :=
      (read_row t (gath m ρ)).trans (funext fun x => gath_row m ρ t x)
    rw [h1]; unfold k0_pay3
    exact shapeCast_shapeCast _ _ _
  rw [show (aM : Memref sig .tc .vmem S1x256 .f32).view.read (Elt F) (acc m ρ t) = acc m ρ t from View.read_whole _ _, ← hr]
  exact write_read _ _ _ hi

/-- The store of device `t`'s own row leaves in it what the full buffer holds there. -/
theorem stored_row (t : Dev nD) (fd : (cc0_scratch1 : Ref sig .tc).ty.Contents (Elt F)) (i : S8x1x256.Idx) (hi : i ∈ slotSet t) :
    ((rM : Memref sig .tc .vmem S8x1x256 .f32).access (rowR t) : View sig .tc _ _ _).write (Elt F) fd (k0_pay3 (acc m ρ t)) Finset.univ i = gath m ρ i := by
  have hi' : i ∈ ((rM : Memref sig .tc .vmem S8x1x256 .f32).access (rowR t) : View sig .tc _ _ _).set := by
    have h := hi; unfold slotSet at h; rw [Memref.set_view_squeeze] at h; exact h
  have hr : ((rM : Memref sig .tc .vmem S8x1x256 .f32).access (rowR t) : View sig .tc _ _ _).read (Elt F) (gath m ρ) = k0_pay3 (acc m ρ t) :=
    (read_row t (gath m ρ)).trans (funext fun x => gath_row m ρ t x)
  exact (congrArg (fun w => ((rM : Memref sig .tc .vmem S8x1x256 .f32).access (rowR t) : View sig .tc _ _ _).write (Elt F) fd w Finset.univ i) hr.symm).trans
    (write_read ((rM : Memref sig .tc .vmem S8x1x256 .f32).access (rowR t) : View sig .tc _ _ _) fd (gath m ρ) hi')

/-! ## Points-tos -/

/-- Row `t` of device `e`'s receive buffer, at contents `f`. -/
def slotPts (e t : Dev nD) (f : Buf (Elt F) ((slotM t : Memref sig .tc .vmem S1x256 .f32).view.loc (e : Thread nD τ))) : sProp 𝕄 :=
  (slotM t : Memref sig .tc .vmem S1x256 .f32).view.loc (e : Thread nD τ) ↦[(slotM t : Memref sig .tc .vmem S1x256 .f32).view.set]{fullShare} f

/-- Share `q` of device `c`'s accumulator, holding its maxima. -/
def accPts (c : Dev nD) (q : PosShare TreeShare) : sProp 𝕄 :=
  (aM : Memref sig .tc .vmem S1x256 .f32).view.loc (c : Thread nD τ) ↦[(aM : Memref sig .tc .vmem S1x256 .f32).view.set]{q} acc m ρ c

/-- The share lent to the transfer to device `t`. -/
abbrev lend (t : Dev nD) : PosShare TreeShare := shareTok fullShare 8 t

omit [FloatOps F] in
instance slotPts_storable (e t : Dev nD) (f) : BI.Storable (upEmb : UEmb _ 𝕄) (slotPts (F := F) e t f) := by unfold slotPts; infer_instance
instance accPts_storable (c : Dev nD) (q) : BI.Storable (upEmb : UEmb _ 𝕄) (accPts (F := F) m ρ c q) := by unfold accPts; infer_instance

omit [FloatOps F] in
/-- The whole accumulator's elements are all. -/
theorem acc_set : (aM : Memref sig .tc .vmem S1x256 .f32).view.set = Finset.univ := View.set_whole _

/-- A share of the accumulator, spelt out. -/
theorem accPts_eq (c : Dev nD) (q : PosShare TreeShare) :
    accPts m ρ c q = (((c : Thread nD τ).loc cc0_scratch0) ↦{q} acc m ρ c : sProp 𝕄) := by unfold accPts; rw [acc_set]

/-- The accumulator whole is a rest and the eight shares. -/
theorem acc_deal (c : Dev nD) :
    (((c : Thread nD τ).loc cc0_scratch0) ↦{fullShare} acc m ρ c : sProp 𝕄)
      = iprop(accPts m ρ c (shareDrop fullShare 8) ∗ bigSep Finset.univ fun t : Dev nD => accPts m ρ c (lend t)) := by
  have hu := pointsTo_toks (nD := nD) (τ := τ) (sig := sig) (Val := Elt F) (Ix := Unit) (Name := ℕ) (U := UU) (Lvl := ℕ)
    (ℓ := (c : Thread nD τ).loc cc0_scratch0) (S := Finset.univ) (f := acc m ρ c) fullShare 8
  rw [BI.equiv_iff.mp ⟨hu.1, hu.2⟩, accPts_eq]
  simp only [accPts_eq]

omit [FloatOps F] in
/-- The receive buffer whole at one contents is its rows. -/
theorem recv_deal (e : Dev nD) (f : Buf (Elt F) ((e : Thread nD τ).loc cc0_scratch1)) :
    (((e : Thread nD τ).loc cc0_scratch1) ↦{fullShare} f : sProp 𝕄) = bigSep Finset.univ fun t : Dev nD => slotPts e t f :=
  pointsTo_blocks (ℓ := (e : Thread nD τ).loc cc0_scratch1) slotSet slot_disjoint slot_cover f

/-! ## The schedule -/

/-- The payload of a cell's duty. -/
def payOf (c : Dev nD) : CIx → Dev nD → sProp 𝕄
  | none, d => iprop(∃ f, slotPts d c f)
  | some (false, t), _ => accPts m ρ c (lend t)
  | some (true, t), _ => slotPts c t (gath m ρ)

/-- The duties of a cell: a barrier's are named by the peers that pay them, a send or receive cell's by its own index; a
    device's own index carries none. -/
def dutiesOf (c : Dev nD) : CIx → Finset (Dev nD)
  | none => Finset.univ.map (peerEmb c)
  | some (_, t) => if t = c then ∅ else {t}

/-- The amount of a duty: one unit of a barrier, or the credit of a row. -/
def amtOf : CIx → ℕ
  | none => 1
  | some _ => N

/-- Every amount is positive. -/
theorem amtOf_pos (k : CIx) : 0 < amtOf k := by
  cases k with
  | none => exact Nat.one_pos
  | some _ => exact N_pos

instance payOf_storable (c : Dev nD) (k : CIx) (d : Dev nD) : BI.Storable (upEmb : UEmb _ 𝕄) (payOf (F := F) m ρ c k d) := by
  rcases k with _ | ⟨_ | _, t⟩ <;> unfold payOf <;> infer_instance

/-- The schedule: each cell has one round, with the duties, amounts and payloads above. -/
def rd : Rounds.Schedule (GSem nD τ sig) (Dev nD) 𝕄 where
  duties g r := if r = 0 ∧ g.1.2 = .tc then (kindOf g.2).elim ∅ (dutiesOf g.1.1) else ∅
  unitless _ := False
  amount g _ _ := (kindOf g.2).elim 1 amtOf
  payload g _ d := (kindOf g.2).elim iprop(emp) fun k => payOf m ρ g.1.1 k d
  amount_pos g _ _ _ := by
    cases kindOf g.2 with
    | none => exact Nat.one_pos
    | some k => exact amtOf_pos k

instance rd_payload_storable (g : GSem nD τ sig) (r : ℕ) (d : Dev nD) :
    BI.Storable (upEmb : UEmb _ 𝕄) ((rd (F := F) m ρ).payload g r d) := by
  show BI.Storable upEmb ((kindOf g.2).elim iprop(emp) fun k => payOf m ρ g.1.1 k d)
  cases kindOf g.2 with
  | none => show BI.Storable upEmb (iprop(emp) : sProp 𝕄); infer_instance
  | some k => show BI.Storable upEmb (payOf m ρ g.1.1 k d); infer_instance

section Facts
variable (c : Dev nD) (k : CIx)

/-- A cell's duties in its round; -/
theorem duties_cell : (rd (F := F) m ρ).duties (kcell (c, k)) 0 = dutiesOf c k := by
  dsimp only [rd]; rw [kindOf_csem]; exact if_pos ⟨rfl, rfl⟩
/-- there are none in later rounds. -/
theorem duties_later (g : GSem nD τ sig) : ∀ r, 1 ≤ r → (rd (F := F) m ρ).duties g r = ∅ :=
  fun r hr => by dsimp only [rd]; rw [if_neg fun h => by omega]
/-- The amount of a cell's duty. -/
theorem amount_cell (r : ℕ) (d : Dev nD) : (rd (F := F) m ρ).amount (kcell (c, k)) r d = amtOf k := by
  dsimp only [rd]; rw [kindOf_csem]; rfl
/-- The payload of a cell's duty. -/
theorem payload_cell (r : ℕ) (d : Dev nD) : (rd (F := F) m ρ).payload (kcell (c, k)) r d = payOf m ρ c k d := by
  dsimp only [rd]; rw [kindOf_csem]; rfl

/-- The units that a cell expects. -/
theorem expect_cell : (rd (F := F) m ρ).expect (kcell (c, k)) 0 = (dutiesOf c k).card * amtOf k := by
  unfold Schedule.expect Schedule.amountOf
  rw [duties_cell, Finset.sum_congr rfl fun d _ => amount_cell m ρ c k 0 d, Finset.sum_const, smul_eq_mul]

/-- The payloads of all of a cell's duties. -/
theorem rest_cell : bigSep ((rd (F := F) m ρ).duties (kcell (c, k)) 0 \ ∅) (fun d => (rd (F := F) m ρ).payload (kcell (c, k)) 0 d)
    = bigSep (dutiesOf c k) fun d => payOf m ρ c k d := by
  rw [Finset.sdiff_empty, duties_cell]
  exact bigSep_congr fun d _ => payload_cell m ρ c k 0 d

/-- A barrier cell's seven units; -/
theorem expect_bar : (rd (F := F) m ρ).expect (barCell c) 0 = 7 := by
  rw [expect_cell, show dutiesOf c none = Finset.univ.map (peerEmb c) from rfl, Finset.card_map, Finset.card_univ, Fintype.card_fin]; rfl
/-- with them, row `c` of each peer's receive buffer. -/
theorem rest_bar : bigSep ((rd (F := F) m ρ).duties (barCell c) 0 \ ∅) (fun d => (rd (F := F) m ρ).payload (barCell c) 0 d)
    = bigSep Finset.univ fun j : Fin 7 => (iprop(∃ f, slotPts (peer c j) c f) : sProp 𝕄) := by
  rw [rest_cell]; unfold dutiesOf; rw [bigSep_map]; rfl

/-- A send or receive cell of another device's index has the one duty of that name. -/
theorem duties_xfer (b : Bool) (t : Dev nD) (h : t ≠ c) : dutiesOf c (some (b, t)) = {t} := if_neg h
/-- It expects the credit of one row; -/
theorem expect_xfer (b : Bool) (t : Dev nD) (h : t ≠ c) : (rd (F := F) m ρ).expect (kcell (c, some (b, t))) 0 = N := by
  rw [expect_cell, duties_xfer c b t h, Finset.card_singleton, Nat.one_mul]; rfl
/-- with it comes its one payload. -/
theorem rest_xfer (b : Bool) (t : Dev nD) (h : t ≠ c) :
    bigSep ((rd (F := F) m ρ).duties (kcell (c, some (b, t))) 0 \ ∅) (fun d => (rd (F := F) m ρ).payload (kcell (c, some (b, t))) 0 d)
      = payOf m ρ c (some (b, t)) t := by
  rw [rest_cell, duties_xfer c b t h, bigSep_singleton]
/-- A device's own index has no duty in any round. -/
theorem duties_self (b : Bool) : ∀ r, 0 ≤ r → (rd (F := F) m ρ).duties (kcell (c, some (b, c))) r = ∅ := by
  intro r _
  rcases Nat.eq_zero_or_pos r with rfl | h
  · rw [duties_cell]; exact if_pos rfl
  · exact duties_later m ρ _ r h

end Facts

end Cert.KernelIdeal.Ex

end
-- ==== Proof.StepKernelIdeal.lean ====
/-
# The exchange's steps

One lemma per kind of step — the signal to a peer, the wait on the barrier, the store of the own row, the transfer to a
peer, the wait for a peer's row, the wait for a sent row — each stated for the `j`-th peer and used once per peer. A step
takes the `j`-th part of what the phase still has to do and leaves the `j`-th part of what the phase has done.
-/
module

public import proofs.«01_k».proof.Proof.SchedKernelIdeal

@[expose] public section

noncomputable section

namespace Cert.KernelIdeal.Ex

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device owes; the levels -/

/-- The peers in the order of the program. -/
abbrev all7 : List (Fin 7) := [0, 1, 2, 3, 4, 5, 6]

/-- The receive credits device `c` still owes, its transfers to the peers `l` outstanding. -/
def oweR (c : Dev nD) : List (Fin 7) → CellTallies nD τ sig Unit
  | [] => 0
  | j :: l => oweR c l + tallyAt (recvCell (peer c j) c) () N

/-- What device `c` owes with its signals to the peers `l` outstanding: one unit each, and every receive credit. -/
def oweB (c : Dev nD) : List (Fin 7) → CellTallies nD τ sig Unit
  | [] => oweR c all7
  | j :: l => oweB c l + tallyAt (barCell (peer c j)) () 1

/-- What a device owes at the start. -/
def O₀ (c : Dev nD) : CellTallies nD τ sig Unit := oweB c all7

/-- A copy is owed on the receive cell of a peer. -/
theorem oweR_pos {c : Dev nD} {l : List (Fin 7)} {g : GSem nD τ sig} {u : Unit} (h : 0 < oweR c l g u) :
    ∃ j, g = recvCell (peer c j) c := by
  induction l with
  | nil => exact absurd h (Nat.lt_irrefl 0)
  | cons j l ih =>
    unfold oweR at h
    rw [Pi.add_apply, Finsupp.add_apply, tallyAt_apply] at h
    by_cases hg : g = recvCell (peer c j) c ∧ u = ()
    · exact ⟨j, hg.1⟩
    · rw [if_neg hg] at h; exact ih h

/-- While signals are still to be sent, what is owed is on the receive cell or the barrier cell of a peer. -/
theorem oweB_pos {c : Dev nD} {l : List (Fin 7)} {g : GSem nD τ sig} {u : Unit} (h : 0 < oweB c l g u) :
    (∃ j, g = recvCell (peer c j) c) ∨ ∃ j, g = barCell (peer c j) := by
  induction l with
  | nil => exact Or.inl (oweR_pos h)
  | cons j l ih =>
    unfold oweB at h
    rw [Pi.add_apply, Finsupp.add_apply, tallyAt_apply] at h
    by_cases hg : g = barCell (peer c j) ∧ u = ()
    · exact Or.inr ⟨j, hg.1⟩
    · rw [if_neg hg] at h; exact ih h

/-- The ranks at which a cell has a level: one, on the cores that run the kernel. -/
def L (g : GSem nD τ sig) : Finset Unit := if g.1.2 = .tc then {()} else ∅

/-- Barrier cells at level 1, receive cells at 2, all others at 0. -/
def lv (g : GSem nD τ sig) (_ : Unit) : ℕ := match kindOf g.2 with
  | some none => 1
  | some (some (true, _)) => 2
  | _ => 0

/-- On another core there is none; -/
theorem L_of_ne (g : GSem nD τ sig) (h : g.1.2 ≠ .tc) : L g = ∅ := if_neg h
/-- on these there is the one. -/
theorem L_tc (c : Dev nD) (sm : SemLoc sig) : L ((c : Thread nD τ), sm) = {()} := if_pos rfl
/-- A cell of the exchange has it. -/
theorem mem_L (ck : Dev nD × CIx) (u : Unit) : u ∈ L (kcell ck) := by
  rw [L_tc]; exact Finset.mem_singleton_self _
/-- The level of a barrier cell. -/
theorem lv_bar (c : Dev nD) : lv (barCell c) () = 1 := by unfold lv; rw [kindOf_csem]
/-- The level of a receive cell. -/
theorem lv_recv (c t : Dev nD) : lv (recvCell c t) () = 2 := by unfold lv; rw [kindOf_csem]

/-- A wait on a semaphore of level 0 is allowed whatever of the launch's debt is outstanding. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases oweB_pos hg with ⟨j, rfl⟩ | ⟨j, rfl⟩ <;> exact mem_L _ _)
      (fun p hp => by
        rw [Finset.mem_singleton.mp hp]
        have : kindOf (.dma q) = none := by
          exact (dif_neg (by omega)).trans (dif_neg (by omega))
        dsimp only [lv]; rw [this])
      (fun g u hg => by
        rcases oweB_pos hg with ⟨j, rfl⟩ | ⟨j, rfl⟩
        · rw [lv_recv]; decide
        · rw [lv_bar]; decide)
  · rw [MayWait_zero]; iintro -; iempintro

/-- At its barrier wait a device owes receive credits only, above its barrier. -/
theorem mayWait_bar (c : Dev nD) (l : List (Fin 7)) :
    (levAts L lv : sProp 𝕄) ⊢ MayWait (c : Thread nD τ) (csem none) () (oweR c l) :=
  MayOwe.of_cut (L := L) (lev := lv) 1 (fun p hp => by rw [Finset.mem_singleton.mp hp]; exact mem_L (c, none) _)
    (fun g u hg => by obtain ⟨j, rfl⟩ := oweR_pos hg; exact mem_L _ _)
    (fun p hp => by rw [Finset.mem_singleton.mp hp]; exact (lv_bar c).le)
    (fun g u hg => by obtain ⟨j, rfl⟩ := oweR_pos hg; rw [lv_recv]; decide)

/-! ## A phase: some peers to do, the others done -/

/-- The peers in `l` hold `A`, the others `B`. -/
def part (l : List (Fin 7)) (A B : Fin 7 → sProp 𝕄) : sProp 𝕄 := bigSep Finset.univ fun j => if j ∈ l then A j else B j

omit [FloatOps F] in
/-- At the start of a phase all peers are to do. -/
theorem part_all (A B : Fin 7 → sProp 𝕄) : part all7 A B = bigSep Finset.univ A :=
  bigSep_congr fun j _ => if_pos (by revert j; decide)
omit [FloatOps F] in
/-- At its end none is. -/
theorem part_nil (A B : Fin 7 → sProp 𝕄) : part [] A B = bigSep Finset.univ B :=
  bigSep_congr fun j _ => if_neg List.not_mem_nil

omit [FloatOps F] in
/-- The next peer's part is taken out, and its done part put back. -/
theorem part_take {j : Fin 7} {l : List (Fin 7)} (hj : j ∉ l) (A B : Fin 7 → sProp 𝕄) :
    part (j :: l) A B ⊢ iprop(A j ∗ (B j -∗ part l A B)) := by
  have h : bigSep (Finset.univ.erase j) (fun i => if i ∈ j :: l then A i else B i) = bigSep (Finset.univ.erase j) fun i => if i ∈ l then A i else B i :=
    bigSep_congr fun i hi => by
      have hne : i ≠ j := (Finset.mem_erase.mp hi).1
      by_cases hl : i ∈ l
      · rw [if_pos hl, if_pos (List.mem_cons_of_mem _ hl)]
      · rw [if_neg hl, if_neg fun hc => (List.mem_cons.mp hc).elim hne hl]
  unfold part
  rw [bigSep_univ_at (fun i => if i ∈ j :: l then A i else B i) j, bigSep_univ_at (fun i => if i ∈ l then A i else B i) j, h,
    if_pos List.mem_cons_self, if_neg hj]
  iintro ⟨HA, HR⟩
  isplitl [HA]; · iexact HA
  iintro HB
  isplitl [HB] <;> iassumption

/-! ## The cells' records -/

/-- Every cell's invariant and that every cell has reached round 0. -/
def records (K : Dev nD × CIx → ℕ) : sProp 𝕄 :=
  iprop((bigSep Finset.univ fun ck : Dev nD × CIx => cellInv ER (rd m ρ) (K ck) (kcell ck))
    ∗ bigSep Finset.univ fun ck : Dev nD × CIx => reached ER (kcell ck) 0)

instance records_persistent (K : Dev nD × CIx → ℕ) : BI.Persistent (records m ρ K) := by unfold records; infer_instance

/-- The records hold a cell's invariant, -/
theorem rec_inv (K : Dev nD × CIx → ℕ) (ck : Dev nD × CIx) : records m ρ K ⊢ cellInv ER (rd m ρ) (K ck) (kcell ck) := by
  unfold records
  iintro ⟨H, -⟩
  iapply (show (bigSep Finset.univ fun ck : Dev nD × CIx => (cellInv ER (rd m ρ) (K ck) (kcell ck) : sProp 𝕄)) ⊢ cellInv ER (rd m ρ) (K ck) (kcell ck) from
    bigSep_elim (Finset.mem_univ ck)) $$ H
/-- and that it has reached its round. -/
theorem rec_reached (K : Dev nD × CIx → ℕ) (ck : Dev nD × CIx) : records m ρ K ⊢ reached ER (kcell ck) 0 := by
  unfold records
  iintro ⟨-, H⟩
  iapply (show (bigSep Finset.univ fun ck : Dev nD × CIx => (reached ER (kcell ck) 0 : sProp 𝕄)) ⊢ reached ER (kcell ck) 0 from
    bigSep_elim (Finset.mem_univ ck)) $$ H

/-- The kernel has no loop that needs a measure. -/
abbrev 𝒱₀ : Variants := Variants.none

/-! ## The steps -/

section Steps
variable (K : Dev nD × CIx → ℕ) (c : Dev nD)
variable {α : Type} {Q : α → sProp (MT nD τ sig Unit (Elt F) ℕ UU ℕ)}

/-- Device `c` running a program. -/
abbrev runs (Q : α → sProp 𝕄) (p : Prog (TpuEff nD τ sig (Elt F) Λ₀ .tc) α) : sProp 𝕄 :=
  wp frame (wpE (defs₀ (F := F)) 𝒱₀ (c : Thread nD τ) none) Set.univ p Q

/-- Before the signal to peer `j`: the duty's token and the row the peer will write. -/
def sigA (j : Fin 7) : sProp 𝕄 := iprop(dutyTok ER (barCell (peer c j)) 0 c ∗ ∃ f, slotPts (F := F) c (peer c j) f)
/-- While the signals are sent: those to the peers `l` are to do. -/
def sigSt (l : List (Fin 7)) : sProp 𝕄 :=
  iprop(part l (sigA (F := F) c) (fun _ => iprop(emp)) ∗ ∃ W, owes (c : Thread nD τ) (oweB c l) W)

/-- The signal to peer `j`. -/
theorem signal_step {j : Fin 7} {l : List (Fin 7)} (hj : j ∉ l) {n : Dev nD} (hn : n = peer c j)
    {k : PUnit → Prog (TpuEff nD τ sig (Elt F) Λ₀ .tc) α} :
    iprop(records m ρ K ∗ sigSt c (j :: l))
      ⊢ iprop((sigSt c l -∗ runs c Q (k ⟨⟩)) -∗ runs c Q (.op (.semSignal (n, .tc) barS (1#32).toInt) k)) := by
  subst hn
  unfold sigSt
  iintro ⟨#HR, HP, ⟨%W, HO⟩⟩ Hk
  ihave HP' := (part_take hj _ _) $$ HP
  unfold sigA
  icases HP' with ⟨⟨Ht, Hs⟩, Hback⟩
  iapply (Rounds.wp_signal 𝒱₀ ER (rd m ρ) (c : Thread nD τ) none (dst := (peer c j : Thread nD τ)) (κ := K (peer c j, none)) (r := 0)
      (d := c) (by
        have h := mem_peers (peer c j) (back j)
        rw [peer_back] at h
        show c ∈ (rd m ρ).duties (kcell (peer c j, none)) 0
        rw [duties_cell]; exact h)
      ((amount_cell m ρ (peer c j) none 0 c).trans (by decide)) () (oweB c l) rfl) $$ [HO Ht Hs]
  · isplitr; · iapply (rec_inv m ρ K (peer c j, none)); iexact HR
    isplitl [HO]; · iexact HO
    isplitl [Ht]; · iexact Ht
    isplitl [Hs]
    · iapply (show iprop(∃ f, slotPts c (peer c j) f) ⊢ (rd m ρ).payload ((peer c j : Thread nD τ), .reg barS) 0 c from
        Entails.of_eq (payload_cell m ρ (peer c j) none 0 c).symm)
      iexact Hs
    iapply (rec_reached m ρ K (peer c j, none)); iexact HR
  iintro HO
  iapply Hk
  isplitl [Hback]
  · iapply Hback; iempintro
  iexists W; iexact HO

/-- The wait for the seven signals: the right to write row `c` of each peer's receive buffer. The barrier then closes. -/
theorem barrier_step {k : PUnit → Prog (TpuEff nD τ sig (Elt F) Λ₀ .tc) α} :
    iprop(records m ρ K ∗ sigSt c [] ∗ cred (tallyAt (barCell c) () 7) ∗ atPos ER (barCell c) 0 ∅ 0 ∗ levAts L lv)
      ⊢ iprop((((bigSep Finset.univ fun j : Fin 7 => iprop(∃ f, slotPts (F := F) (peer c j) c f)) ∗ (∃ W, owes (c : Thread nD τ) (oweR c all7) W)
            ∗ semVal (barCell c) 0) -∗ runs c Q (k ⟨⟩))
          -∗ runs c Q (.op (.semWait barS (7#32).toInt) k)) := by
  unfold sigSt
  iintro ⟨#HR, ⟨-, ⟨%W, HO⟩⟩, Hc, Hat, Hlev⟩ Hk
  ihave #HI := (rec_inv m ρ K (c, none)) $$ HR
  iapply (Rounds.wp_wait_rest_token 𝒱₀ ER (rd m ρ) (c : Thread nD τ) none (κ := K (c, none)) (sm := csem none)
      (wpE_semWait_eq 𝒱₀ (c : Thread nD τ) none Set.univ) (Set.mem_univ _) () (O := oweR c all7) (W := W) (R := 0) (m := 0) (T := ∅)
      (by rw [expect_bar]; decide)) $$ [Hc HO Hat Hlev]
  · isplitr; · iexact HI
    isplitl [Hc]; · iexact Hc
    isplitl [HO]; · iexact HO
    isplitl [Hlev]; · iapply (mayWait_bar c all7); iexact Hlev
    iexact Hat
  iintro ⟨HO, Hat, -, Hpay⟩
  ihave Hp := (Entails.of_eq (rest_bar m ρ c)) $$ Hpay
  imod (Rounds.cell_close ER (rd m ρ) (Set.mem_univ (K (c, none))) (fun h => h) (R := 0 + 1) (duties_later m ρ (barCell c))) $$ [Hat] with Hz
  · isplitr; · iexact HI
    iexact Hat
  iapply Hk
  isplitl [Hp]; · iexact Hp
  isplitl [HO]; · iexists _; iexact HO
  iexact Hz

/-- The elements of the own row, under the view the store goes through. -/
theorem access_row (t : Dev nD) : ((rM : Memref sig .tc .vmem S8x1x256 .f32).access (rowR t) : View sig .tc _ _ _).set = slotSet t := by
  unfold slotSet; rw [Memref.set_view_squeeze]

/-- A row over the view its load and store go through. -/
theorem slotPts_access (t : Dev nD) (f : (cc0_scratch1 : Ref sig .tc).ty.Contents (Elt F)) :
    (slotPts c t f : sProp 𝕄) = (((rM : Memref sig .tc .vmem S8x1x256 .f32).access (rowR t) : View sig .tc _ _ _).loc (c : Thread nD τ) ↦[slotSet t]{fullShare} f) := rfl

/-- The load and the store of the own row. -/
theorem own_row_step {o : Fin 3 → ℕ} (ho : o = rowOff c) {ib : ∀ a, o a + S1x1x256.size a ≤ S8x1x256.size a} {hl} {hx} {hm} {w : S1x1x256.Idx → Elt F .f32}
    (hw : w = k0_pay3 (acc m ρ c)) {f : (cc0_scratch1 : Ref sig .tc).ty.Contents (Elt F)}
    {k : PUnit → Prog (TpuEff nD τ sig (Elt F) Λ₀ .tc) α} :
    (slotPts c c f : sProp 𝕄)
      ⊢ iprop((slotPts c c (gath m ρ) -∗ runs c Q (k ⟨⟩))
          -∗ runs c Q (.op (.load rM (Rect.unit (s := S8x1x256) o S1x1x256.size ib).toLoadRect hl) fun _ =>
              .op (.store rM (Rect.unit (s := S8x1x256) o S1x1x256.size ib) w Finset.univ hx hm) k)) := by
  subst ho hw
  rw [slotPts_access, slotPts_access]
  iintro H Hk
  iapply (wp_load_rect 𝒱₀ (c : Thread nD τ) none Set.univ (m := rM) (r := rowR c) (S := slotSet c) (by rw [access_row])) $$ H; iintro H
  iapply (wp_store 𝒱₀ (c : Thread nD τ) none Set.univ (m := rM) (r := rowR c) (Mk := Finset.univ) (S := slotSet c)
    (((View.setOn_subset_set _ _).trans (by rw [access_row])))) $$ H; iintro H
  iapply Hk
  iapply (Entails.of_eq (pointsTo_congr (ℓ := ((rM : Memref sig .tc .vmem S8x1x256 .f32).access (rowR c) : View sig .tc _ _ _).loc (c : Thread nD τ))
    fun i hi => stored_row m ρ c f i hi))
  iexact H

/-- Before the transfer to peer `j`: the accumulator's share for it, the peer's row, the two duties' tokens. -/
def sendA (j : Fin 7) : sProp 𝕄 :=
  iprop(accPts m ρ c (lend (peer c j)) ∗ (∃ f, slotPts (F := F) (peer c j) c f)
    ∗ dutyTok ER (sendCell c (peer c j)) 0 (peer c j) ∗ dutyTok ER (recvCell (peer c j) c) 0 c)
/-- After it: the send semaphore's credit. -/
def sendB (j : Fin 7) : sProp 𝕄 := cred (tallyAt (sendCell c (peer c j)) () N)
/-- While the copies are started: those to the peers `l` are to do. -/
def sendSt (l : List (Fin 7)) : sProp 𝕄 :=
  iprop(part l (sendA m ρ c) (sendB c) ∗ ∃ W, owes (c : Thread nD τ) (oweR c l) W)

/-- The transfer of the accumulator to row `c` of peer `j`. -/
theorem send_step {j : Fin 7} {l : List (Fin 7)} (hj : j ∉ l) {n : Dev nD} (hn : n = peer c j)
    {o4 : Fin 3 → ℕ} (h4 : o4 = rowOff c) {o2 o3 : Fin 1 → ℕ} (h2 : o2 = semOff (peer c j)) (h3 : o3 = semOff c)
    {i4 : ∀ a, o4 a + S1x1x256.size a ≤ S8x1x256.size a} {i2 : ∀ a, o2 a + S1.size a ≤ S8.size a} {i3 : ∀ a, o3 a + S1.size a ≤ S8.size a}
    {hsc} {hsrc} {hdst} {hsem} {k : PUnit → Prog (TpuEff nD τ sig (Elt F) Λ₀ .tc) α} :
    iprop(records m ρ K ∗ sendSt m ρ c (j :: l))
      ⊢ iprop((sendSt m ρ c l -∗ runs c Q (k ⟨⟩))
          -∗ runs c Q (.op (.enqueueDma aM (.remote (Dev.tc n : Thread nD τ)
                (((rM : Memref sig .tc .vmem S8x1x256 .f32).slice (Rect.unit (s := S8x1x256) o4 S1x1x256.size i4) (fun _ => rfl)).squeeze S1x256 squeezes_S1x1x256_S1x256)
                (.dma (((cc0_scratch2 : DmaSems sig S8).slice (Rect.unit (s := S8) o2 S1.size i2)).squeeze S_ squeezes_S1_S_).sem) hsc)
              (.dma (((cc0_scratch3 : DmaSems sig S8).slice (Rect.unit (s := S8) o3 S1.size i3)).squeeze S_ squeezes_S1_S_).sem) hsrc hdst hsem) k)) := by
  subst hn h4 h2 h3
  unfold sendSt
  iintro ⟨#HR, HP, ⟨%W, HO⟩⟩ Hk
  ihave HP' := (part_take hj _ _) $$ HP
  unfold sendA sendB
  icases HP' with ⟨⟨Ha, ⟨%fd, Hs⟩, HtS, HtR⟩, Hback⟩
  unfold accPts slotPts
  iapply (Rounds.wp_send_pointsTo 𝒱₀ ER (rd m ρ) (c : Thread nD τ) none (c' := (peer c j : Thread nD τ)) (src := aM) (dst := slotM c)
      (sS := csem (some (false, peer c j))) (sem := csem (some (true, c)))
      (κ₁ := K (c, some (false, peer c j))) (κ₂ := K (peer c j, some (true, c)))
      (r₁ := 0) (r₂ := 0) (d₁ := peer c j) (d₂ := c) (fs := acc m ρ c) (fd := fd)
      (by rw [duties_cell (c := c) (k := some (false, peer c j)), duties_xfer _ _ _ (peer_ne c j)]; exact Finset.mem_singleton_self _)
      (by rw [duties_cell (c := peer c j) (k := some (true, c)), duties_xfer _ _ _ (ne_peer c j)]; exact Finset.mem_singleton_self _)
      () () N (slot_credit c) (amount_cell m ρ c (some (false, peer c j)) 0 _) (amount_cell m ρ (peer c j) (some (true, c)) 0 _) (oweR c l) rfl (W := W)
      (by rw [payload_cell (c := c) (k := some (false, peer c j))]; exact BI.Entails.refl _)
      (by
        rw [payload_cell (c := peer c j) (k := some (true, c))]
        exact Entails.of_eq (pointsTo_congr fun i hi => landed_row m ρ c fd i hi))) $$ [Ha Hs HO HtS HtR]
  · isplitr; · iapply (rec_inv m ρ K (c, some (false, peer c j))); iexact HR
    isplitr; · iapply (rec_inv m ρ K (peer c j, some (true, c))); iexact HR
    isplitl [Ha]; · iexact Ha
    isplitl [Hs]; · iexact Hs
    isplitl [HO]; · iexact HO
    isplitl [HtS]; · iexact HtS
    isplitr; · iapply (rec_reached m ρ K (c, some (false, peer c j))); iexact HR
    isplitl [HtR]; · iexact HtR
    iapply (rec_reached m ρ K (peer c j, some (true, c))); iexact HR
  iintro ⟨Hc, HO⟩
  iapply Hk
  isplitl [Hback Hc]
  · iapply Hback; iexact Hc
  iexists W; iexact HO

/-- A wait for the one round of a transfer cell of another device's index, owing nothing; the cell then closes. -/
theorem xfer_wait (b : Bool) {t : Dev nD} (ht : t ≠ c) {w : TpuEff nD τ sig (Elt F) Λ₀ .tc PUnit}
    (hw : ∀ P : PUnit → sProp 𝕄, wpE (defs₀ (F := F)) 𝒱₀ (c : Thread nD τ) none Set.univ w P = waitSpec (c : Thread nD τ) Set.univ (csem (some (b, t))) N P)
    {k : PUnit → Prog (TpuEff nD τ sig (Elt F) Λ₀ .tc) α} :
    iprop(records m ρ K ∗ cred (tallyAt (kcell (c, some (b, t))) () N) ∗ atPos ER (kcell (c, some (b, t))) 0 ∅ 0 ∗ (∃ W, owes (c : Thread nD τ) 0 W))
      ⊢ iprop(((payOf m ρ c (some (b, t)) t ∗ semVal (kcell (c, some (b, t))) 0 ∗ (∃ W, owes (c : Thread nD τ) 0 W)) -∗ runs c Q (k ⟨⟩))
          -∗ runs c Q (.op w k)) := by
  iintro ⟨#HR, Hc, Hat, ⟨%W, HO⟩⟩ Hk
  ihave #HI := (rec_inv m ρ K (c, some (b, t))) $$ HR
  iapply (Rounds.wp_wait_rest_token 𝒱₀ ER (rd m ρ) (c : Thread nD τ) none (κ := K (c, some (b, t))) (sm := csem (some (b, t)))
      hw (Set.mem_univ _) () (O := 0) (W := W) (R := 0) (m := 0) (T := ∅)
      (by rw [Nat.zero_add]; exact (expect_xfer m ρ c b t ht).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_xfer m ρ c b t ht)) $$ Hpay
  imod (Rounds.cell_close ER (rd m ρ) (Set.mem_univ (K (c, some (b, t)))) (fun h => h) (R := 0 + 1) (duties_later m ρ (kcell (c, some (b, t))))) $$ [Hat] with Hz
  · isplitr; · iexact HI
    iexact Hat
  iapply Hk
  isplitl [Hp]; · iexact Hp
  isplitl [Hz]; · iexact Hz
  iexists _; iexact HO

/-- Before the wait for peer `j`'s row: its credit and the position; -/
def recvA (j : Fin 7) : sProp 𝕄 := iprop(cred (tallyAt (recvCell c (peer c j)) () N) ∗ atPos ER (recvCell c (peer c j)) 0 ∅ 0)
/-- after it: the row filled and the semaphore at zero. -/
def recvB (j : Fin 7) : sProp 𝕄 := iprop(slotPts c (peer c j) (gath m ρ) ∗ semVal (recvCell c (peer c j)) 0)
/-- While the rows arrive: those of the peers `l` are awaited. -/
def recvSt (l : List (Fin 7)) : sProp 𝕄 := iprop(part l (recvA c) (recvB m ρ c) ∗ ∃ W, owes (c : Thread nD τ) 0 W)

/-- The wait for peer `j`'s row. -/
theorem recv_step {j : Fin 7} {l : List (Fin 7)} (hj : j ∉ l) {o2 : Fin 1 → ℕ} (h2 : o2 = semOff (peer c j)) {o5 : Fin 3 → ℕ} (h5 : o5 = rowOff (peer c j))
    {i2 : ∀ a, o2 a + S1.size a ≤ S8.size a} {i5 : ∀ a, o5 a + S1x1x256.size a ≤ S8x1x256.size a} {hs} {hd}
    {k : PUnit → Prog (TpuEff nD τ sig (Elt F) Λ₀ .tc) α} :
    iprop(records m ρ K ∗ recvSt m ρ c (j :: l))
      ⊢ iprop((recvSt m ρ c l -∗ runs c Q (k ⟨⟩))
          -∗ runs c Q (.op (.waitDma2 (((cc0_scratch3 : DmaSems sig S8).slice (Rect.unit (s := S8) o2 S1.size i2)).squeeze S_ squeezes_S1_S_).sem (aM : Memref sig .tc .vmem S1x256 .f32)
              (((rM : Memref sig .tc .vmem S8x1x256 .f32).slice (Rect.unit (s := S8x1x256) o5 S1x1x256.size i5) (fun _ => rfl)).squeeze S1x256 squeezes_S1x1x256_S1x256) hs hd) k)) := by
  subst h2 h5
  unfold recvSt
  iintro ⟨#HR, HP, HO⟩ Hk
  ihave HP' := (part_take hj _ _) $$ HP
  unfold recvA recvB
  icases HP' with ⟨⟨Hc, Hat⟩, Hback⟩
  iapply (xfer_wait m ρ K c true (peer_ne c j) (fun P => by
    rw [wpE_waitDma2_eq 𝒱₀ (c : Thread nD τ) none Set.univ P, slot_credit]; rfl)) $$ [Hc Hat HO]
  · isplitr; · iexact HR
    isplitl [Hc]; · iexact Hc
    isplitl [Hat] <;> iassumption
  iintro ⟨Hp, Hz, HO⟩
  iapply Hk
  isplitl [Hback Hp Hz]
  · iapply Hback
    isplitl [Hp]; · unfold payOf; iexact Hp
    iexact Hz
  iexact HO

/-- Before the wait for the row sent to peer `j`: its credit and the position; -/
def doneA (j : Fin 7) : sProp 𝕄 := iprop(cred (tallyAt (sendCell c (peer c j)) () N) ∗ atPos ER (sendCell c (peer c j)) 0 ∅ 0)
/-- after it: the accumulator's share again and the semaphore at zero. -/
def doneB (j : Fin 7) : sProp 𝕄 := iprop(accPts m ρ c (lend (peer c j)) ∗ semVal (sendCell c (peer c j)) 0)
/-- While the sent rows are awaited: those to the peers `l` are left. -/
def doneSt (l : List (Fin 7)) : sProp 𝕄 := iprop(part l (doneA c) (doneB m ρ c) ∗ ∃ W, owes (c : Thread nD τ) 0 W)

/-- The wait for the row sent to peer `j`. -/
theorem done_step {j : Fin 7} {l : List (Fin 7)} (hj : j ∉ l) {o2 : Fin 1 → ℕ} (h2 : o2 = semOff (peer c j))
    {i2 : ∀ a, o2 a + S1.size a ≤ S8.size a} {src : Memref sig .tc .vmem S1x256 .f32} {hs} {hd}
    {k : PUnit → Prog (TpuEff nD τ sig (Elt F) Λ₀ .tc) α} :
    iprop(records m ρ K ∗ doneSt m ρ c (j :: l))
      ⊢ iprop((doneSt m ρ c l -∗ runs c Q (k ⟨⟩))
          -∗ runs c Q (.op (.waitDma2 (((cc0_scratch2 : DmaSems sig S8).slice (Rect.unit (s := S8) o2 S1.size i2)).squeeze S_ squeezes_S1_S_).sem src
              (aM : Memref sig .tc .vmem S1x256 .f32) hs hd) k)) := by
  subst h2
  unfold doneSt
  iintro ⟨#HR, HP, HO⟩ Hk
  ihave HP' := (part_take hj _ _) $$ HP
  unfold doneA doneB
  icases HP' with ⟨⟨Hc, Hat⟩, Hback⟩
  iapply (xfer_wait m ρ K c false (peer_ne c j) (wpE_waitDma2_eq 𝒱₀ (c : Thread nD τ) none Set.univ)) $$ [Hc Hat HO]
  · isplitr; · iexact HR
    isplitl [Hc]; · iexact Hc
    isplitl [Hat] <;> iassumption
  iintro ⟨Hp, Hz, HO⟩
  iapply Hk
  isplitl [Hback Hp Hz]
  · iapply Hback
    isplitl [Hp]; · unfold payOf; iexact Hp
    iexact Hz
  iexact HO

/-- A device's own index is never used: its cell closes at once. -/
theorem self_close (b : Bool) :
    iprop(records m ρ K ∗ atPos ER (kcell (c, some (b, c))) 0 ∅ 0) ⊢ iprop(|={Set.univ}=> semVal (kcell (c, some (b, c))) 0) := by
  iintro ⟨#HR, Hat⟩
  iapply (Rounds.cell_close ER (rd m ρ) (Set.mem_univ (K (c, some (b, c)))) (fun h => h) (R := 0) (duties_self m ρ c b))
  isplitr; · iapply (rec_inv m ρ K (c, some (b, c))); iexact HR
  iexact Hat

end Steps

end Cert.KernelIdeal.Ex

end
-- ==== Proof.BodyKernelIdeal.lean ====
/-
# One device's run

What a device starts from and ends with, and its kernel body executed step by step between the two.
-/
module

public import proofs.«01_k».proof.Proof.StepKernelIdeal

@[expose] public section

noncomputable section

namespace Cert.KernelIdeal.Ex

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

/-- The pipeline has one step. -/
theorem cfg0_N : cfg0.N = 1 := by decide
/-- That step. -/
def t₀ : Fin cfg0.N := ⟨0, by rw [cfg0_N]; decide⟩
/-- Every step is that step. -/
theorem fin_N (t : Fin cfg0.N) : t = t₀ := by
  obtain ⟨t, ht⟩ := t; have := cfg0_N; exact Fin.ext (by simp only [t₀]; omega)

/-- The tokens of the duties device `c` pays: a unit to each peer's barrier, its own send semaphores' credits, and its row's
    arrival at each peer. -/
def payToks (c : Dev nD) : sProp 𝕄 :=
  iprop((bigSep Finset.univ fun j : Fin 7 => dutyTok ER (barCell (peer c j)) 0 c)
    ∗ (bigSep Finset.univ fun j : Fin 7 => dutyTok ER (sendCell c (peer c j)) 0 (peer c j))
    ∗ bigSep Finset.univ fun j : Fin 7 => dutyTok ER (recvCell (peer c j) c) 0 c)

/-- The positions at round 0 of the device's own cells. -/
def poss (c : Dev nD) : sProp 𝕄 :=
  iprop(atPos ER (barCell c) 0 ∅ 0 ∗ (bigSep Finset.univ fun t : Dev nD => atPos ER (sendCell c t) 0 ∅ 0)
    ∗ bigSep Finset.univ fun t : Dev nD => atPos ER (recvCell c t) 0 ∅ 0)

/-- A device's records, positions and tokens. -/
def ghost (K : Dev nD × CIx → ℕ) (c : Dev nD) : sProp 𝕄 := iprop(records m ρ K ∗ poss c ∗ payToks c)

/-- The credit a device is dealt: its barrier's seven units and each peer's row. -/
def creds (c : Dev nD) : sProp 𝕄 :=
  iprop(cred (tallyAt (barCell c) () 7) ∗ bigSep Finset.univ fun j : Fin 7 => cred (tallyAt (recvCell c (peer c j)) () N))

/-- What a device starts with: records, positions and tokens, its credit, and the levels. -/
def start (c : Dev nD) : sProp 𝕄 := iprop((∃ K, ghost m ρ K c) ∗ creds c ∗ levAts L lv)

/-- The counters of all the device's cells at zero. -/
def zeros (c : Dev nD) : sProp 𝕄 :=
  iprop(semVal (barCell c) 0 ∗ (bigSep Finset.univ fun t : Dev nD => semVal (sendCell c t) 0)
    ∗ bigSep Finset.univ fun t : Dev nD => semVal (recvCell c t) 0)

/-- Before the body: the start, and the two scratch buffers with any contents. -/
def Φ₀ (c : Dev nD) : sProp 𝕄 :=
  iprop(start m ρ c ∗ (∃ f : Buf (Elt F) ((c : Thread nD τ).loc cc0_scratch0), (((c : Thread nD τ).loc cc0_scratch0) ↦{fullShare} f))
    ∗ ∃ f : Buf (Elt F) ((c : Thread nD τ).loc cc0_scratch1), (((c : Thread nD τ).loc cc0_scratch1) ↦{fullShare} f))
/-- After the body: the accumulator holds the device's maxima, the receive buffer every device's, and the cells are closed. -/
def Φ₁ (c : Dev nD) : sProp 𝕄 :=
  iprop((((c : Thread nD τ).loc cc0_scratch0) ↦{fullShare} acc m ρ c) ∗ (((c : Thread nD τ).loc cc0_scratch1) ↦{fullShare} gath m ρ) ∗ zeros c)

/-- The arrays, what the body leaves in their staging buffers, the state around the body and what is owed around it. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

omit [FloatOps F] in
/-- A resource for each window is one for the input and one for the output. -/
theorem bigSep_W (Φ : Fin cfg0.W → sProp 𝕄) : bigSep Finset.univ Φ = iprop(Φ (0 : Fin 2) ∗ Φ (1 : Fin 2)) := bigSep_W0 Φ

/-- The input is fetched at the one step. -/
theorem fetch_0 (t : Fin cfg0.N) : (cfg0.win (0 : Fin 2)).fetch t = true := by rw [fin_N t]; rfl

omit [FloatOps F] in
/-- Owning a whole buffer at some contents, spelt out. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## Whole-buffer loads and stores -/

/-- The whole input block, as an access. -/
abbrev rx : Rect S512x256 := Rect.unit (s := S512x256) ![0, 0] S512x256.size inb_S512x256_S512x256_0_0
/-- A whole one-row buffer, as an access. -/
abbrev r1 : Rect S1x256 := Rect.unit (s := S1x256) ![0, 0] S1x256.size inb_S1x256_S1x256_0_0
/-- The whole receive buffer, as an access. -/
abbrev r8 : Rect S8x1x256 := Rect.unit (s := S8x1x256) ![0, 0, 0] S8x1x256.size inb_S8x1x256_S8x1x256_0_0_0

omit [FloatOps F] in
/-- Two zero offsets. -/
theorem hz2 : (![0, 0] : Fin 2 → Nat) = fun _ => 0 := funext fun a => by fin_cases a <;> rfl
omit [FloatOps F] in
/-- Three zero offsets. -/
theorem hz3 : (![0, 0, 0] : Fin 3 → Nat) = fun _ => 0 := funext fun a => by fin_cases a <;> rfl
omit [FloatOps F] in
/-- Reading the whole input block gives its contents; -/
theorem read_x (f : (cc0_stg0_0 : Ref sig .tc).ty.Contents (Elt F)) : ((xM : Memref sig .tc .vmem S512x256 .f32).access rx : View sig .tc _ _ _).read (Elt F) f = f :=
  Memref.readAt_unit_zero (Elt F) cc0_stg0_0 hz2 _ f
omit [FloatOps F] in
/-- and so does reading the whole accumulator -/
theorem read_a (f : (cc0_scratch0 : Ref sig .tc).ty.Contents (Elt F)) : ((aM : Memref sig .tc .vmem S1x256 .f32).access r1 : View sig .tc _ _ _).read (Elt F) f = f :=
  Memref.readAt_unit_zero (Elt F) cc0_scratch0 hz2 _ f
omit [FloatOps F] in
/-- and the whole receive buffer. -/
theorem read_r (f : (cc0_scratch1 : Ref sig .tc).ty.Contents (Elt F)) : ((rM : Memref sig .tc .vmem S8x1x256 .f32).access r8 : View sig .tc _ _ _).read (Elt F) f = f :=
  Memref.readAt_unit_zero (Elt F) cc0_scratch1 hz3 _ f
omit [FloatOps F] in
/-- Writing the whole accumulator replaces its contents; -/
theorem write_a (f w : (cc0_scratch0 : Ref sig .tc).ty.Contents (Elt F)) :
    ((aM : Memref sig .tc .vmem S1x256 .f32).access r1 : View sig .tc _ _ _).write (Elt F) f w Finset.univ = w :=
  Memref.write_access_unit_zero_univ (Elt F) cc0_scratch0 hz2 _ f w
omit [FloatOps F] in
/-- and so does writing the whole result buffer. -/
theorem write_o (f w : (cc0_stg1_0 : Ref sig .tc).ty.Contents (Elt F)) :
    ((oM : Memref sig .tc .vmem S1x256 .f32).access r1 : View sig .tc _ _ _).write (Elt F) f w Finset.univ = w :=
  Memref.write_access_unit_zero_univ (Elt F) cc0_stg1_0 hz2 _ f w

/-- The load of the shard, the maxima of its rows stored in the accumulator and read back. -/
theorem maxima_step (c : Dev nD) {α : Type} {Q : α → sProp (MT nD τ sig Unit (Elt F) ℕ UU ℕ)} {f : (cc0_scratch0 : Ref sig .tc).ty.Contents (Elt F)}
    {h₁} {h₂} {h₃} {hx} {hm} {k : (S1x256.Idx → Elt F .f32) → Prog (TpuEff nD τ sig (Elt F) Λ₀ .tc) α} :
    (iprop((((c : Thread nD τ).loc cc0_stg0_0) ↦{fullShare} xstg m ρ c) ∗ (((c : Thread nD τ).loc cc0_scratch0) ↦{fullShare} f)) : sProp 𝕄)
      ⊢ iprop(((((((c : Thread nD τ).loc cc0_stg0_0) ↦{fullShare} xstg m ρ c) ∗ (((c : Thread nD τ).loc cc0_scratch0) ↦{fullShare} acc m ρ c)))
            -∗ runs c Q (k (acc m ρ c)))
          -∗ runs c Q (.op (.load xM rx.toLoadRect h₁) fun v => .op (.load aM r1.toLoadRect h₂) fun _ =>
              .op (.store aM r1 (k0_pay2 (k0_pay1 v)) Finset.univ hx hm) fun _ => .op (.load aM r1.toLoadRect h₃) k)) := by
  iintro ⟨Hx, Hacc⟩ Hk
  iapply (wp_load_rect 𝒱₀ (c : Thread nD τ) none Set.univ (m := xM) (r := rx) (S := Finset.univ) (Finset.subset_univ _)) $$ Hx; iintro Hx
  iapply (wp_load_rect 𝒱₀ (c : Thread nD τ) none Set.univ (m := aM) (r := r1) (S := Finset.univ) (Finset.subset_univ _)) $$ Hacc; iintro Hacc
  iapply (wp_store 𝒱₀ (c : Thread nD τ) none Set.univ (m := aM) (r := r1) (Mk := Finset.univ) (S := Finset.univ) (Finset.subset_univ _)) $$ Hacc; iintro Hacc
  rw [write_a, read_x]
  iapply (wp_load_rect 𝒱₀ (c : Thread nD τ) none Set.univ (m := aM) (r := r1) (S := Finset.univ) (Finset.subset_univ _)) $$ Hacc; iintro Hacc
  rw [read_a]
  iapply Hk
  isplitl [Hx]; · iexact Hx
  iexact Hacc

/-- The load of the filled receive buffer, and the maxima of its rows stored in the result. -/
theorem result_step (c : Dev nD) {α : Type} {Q : α → sProp (MT nD τ sig Unit (Elt F) ℕ UU ℕ)} {f : (cc0_stg1_0 : Ref sig .tc).ty.Contents (Elt F)}
    {h₁} {h₂} {hx} {hm} {k : PUnit → Prog (TpuEff nD τ sig (Elt F) Λ₀ .tc) α} :
    (iprop((((c : Thread nD τ).loc cc0_scratch1) ↦{fullShare} gath m ρ) ∗ (((c : Thread nD τ).loc cc0_stg1_0) ↦{fullShare} f)) : sProp 𝕄)
      ⊢ iprop(((((((c : Thread nD τ).loc cc0_scratch1) ↦{fullShare} gath m ρ) ∗ (((c : Thread nD τ).loc cc0_stg1_0) ↦{fullShare} outAt m ρ)))
            -∗ runs c Q (k ⟨⟩))
          -∗ runs c Q (.op (.load rM r8.toLoadRect h₁) fun v => .op (.load oM r1.toLoadRect h₂) fun _ =>
              .op (.store oM r1 (k0_pay4 v) Finset.univ hx hm) k)) := by
  iintro ⟨Hr, Ho⟩ Hk
  iapply (wp_load_rect 𝒱₀ (c : Thread nD τ) none Set.univ (m := rM) (r := r8) (S := Finset.univ) (Finset.subset_univ _)) $$ Hr; iintro Hr
  iapply (wp_load_rect 𝒱₀ (c : Thread nD τ) none Set.univ (m := oM) (r := r1) (S := Finset.univ) (Finset.subset_univ _)) $$ Ho; iintro Ho
  iapply (wp_store 𝒱₀ (c : Thread nD τ) none Set.univ (m := oM) (r := r1) (Mk := Finset.univ) (S := Finset.univ) (Finset.subset_univ _)) $$ Ho; iintro Ho
  rw [write_o, read_r]
  iapply Hk
  isplitl [Hr]; · iexact Hr
  iexact Ho

/-! ## From phase to phase -/

section Phases
variable (c : Dev nD)

omit [FloatOps F] in
/-- The signals' phase begins: the receive buffer's rows are dealt, row `c` kept. -/
theorem signals_begin (f : Buf (Elt F) ((c : Thread nD τ).loc cc0_scratch1)) (W : Waits sig Unit) :
    iprop((((c : Thread nD τ).loc cc0_scratch1) ↦{fullShare} f) ∗ (bigSep Finset.univ fun j : Fin 7 => dutyTok ER (barCell (peer c j)) 0 c)
        ∗ owes (c : Thread nD τ) (O₀ c) W)
      ⊢ iprop(slotPts c c f ∗ sigSt (F := F) c all7) := by
  rw [recv_deal, bigSep_peers c]
  unfold sigSt
  rw [part_all]
  iintro ⟨⟨Hown, Hs⟩, Ht, HO⟩
  isplitl [Hown]; · iexact Hown
  isplitl [Ht Hs]
  · iapply (show iprop((bigSep Finset.univ fun j : Fin 7 => dutyTok ER (barCell (peer c j)) 0 c) ∗ bigSep Finset.univ fun j : Fin 7 => slotPts c (peer c j) f)
        ⊢ (bigSep Finset.univ (sigA (F := F) c) : sProp 𝕄) from by
          rw [← bigSep_sep']
          refine bigSep_mono fun j _ => ?_
          unfold sigA
          exact (show iprop(dutyTok ER (barCell (peer c j)) 0 c ∗ slotPts c (peer c j) f)
              ⊢ (iprop(dutyTok ER (barCell (peer c j)) 0 c ∗ ∃ f, slotPts (F := F) c (peer c j) f) : sProp 𝕄) from by
            iintro ⟨H1, H2⟩
            isplitl [H1]; · iexact H1
            iexists f; iexact H2))
    isplitl [Ht] <;> iassumption
  iexists W; iexact HO

/-- The transfers' phase begins: the accumulator is dealt in shares, one per peer; the share of the own index and the rest stay. -/
theorem sends_begin :
    iprop((((c : Thread nD τ).loc cc0_scratch0) ↦{fullShare} acc m ρ c) ∗ (bigSep Finset.univ fun j : Fin 7 => iprop(∃ f, slotPts (F := F) (peer c j) c f))
        ∗ (bigSep Finset.univ fun j : Fin 7 => dutyTok ER (sendCell c (peer c j)) 0 (peer c j))
        ∗ (bigSep Finset.univ fun j : Fin 7 => dutyTok ER (recvCell (peer c j) c) 0 c) ∗ ∃ W, owes (c : Thread nD τ) (oweR c all7) W)
      ⊢ iprop((accPts m ρ c (shareDrop fullShare 8) ∗ accPts m ρ c (lend c)) ∗ sendSt m ρ c all7) := by
  rw [acc_deal, bigSep_peers c]
  unfold sendSt sendA
  rw [part_all, bigSep_sep', bigSep_sep', bigSep_sep']
  iintro ⟨⟨Hd, Hc, Ha⟩, Hs, H1, H2, HO⟩
  isplitl [Hd Hc]; · isplitl [Hd] <;> iassumption
  isplitr [HO]
  · isplitl [Ha]; · iexact Ha
    isplitl [Hs]; · iexact Hs
    isplitl [H1] <;> iassumption
  iexact HO

/-- The waits for the peers' rows begin; the send credits go to the last phase. -/
theorem recvs_begin :
    iprop(sendSt m ρ c [] ∗ (bigSep Finset.univ fun j : Fin 7 => cred (tallyAt (recvCell c (peer c j)) () N))
        ∗ bigSep Finset.univ fun j : Fin 7 => atPos ER (recvCell c (peer c j)) 0 ∅ 0)
      ⊢ iprop((bigSep Finset.univ fun j : Fin 7 => cred (tallyAt (sendCell c (peer c j)) () N)) ∗ recvSt m ρ c all7) := by
  unfold sendSt recvSt recvA
  rw [part_nil, part_all, bigSep_sep']
  iintro ⟨⟨Hc, HO⟩, Hr, Hat⟩
  isplitl [Hc]; · unfold sendB; iexact Hc
  isplitr [HO]
  · isplitl [Hr] <;> iassumption
  iexact HO

/-- They end: the receive buffer is whole again, holding every device's maxima. -/
theorem recvs_end :
    iprop(slotPts c c (gath m ρ) ∗ recvSt m ρ c [])
      ⊢ iprop((((c : Thread nD τ).loc cc0_scratch1) ↦{fullShare} gath m ρ) ∗ (bigSep Finset.univ fun j : Fin 7 => semVal (recvCell c (peer c j)) 0)
          ∗ ∃ W, owes (c : Thread nD τ) 0 W) := by
  unfold recvSt recvB
  rw [part_nil, bigSep_sep', recv_deal, bigSep_peers c]
  iintro ⟨Hc, ⟨Hs, Hz⟩, HO⟩
  isplitl [Hc Hs]; · isplitl [Hc] <;> iassumption
  isplitl [Hz] <;> iassumption

/-- The waits for the sent rows begin. -/
theorem dones_begin :
    iprop((bigSep Finset.univ fun j : Fin 7 => cred (tallyAt (sendCell c (peer c j)) () N))
        ∗ (bigSep Finset.univ fun j : Fin 7 => atPos ER (sendCell c (peer c j)) 0 ∅ 0) ∗ ∃ W, owes (c : Thread nD τ) 0 W)
      ⊢ doneSt m ρ c all7 := by
  unfold doneSt doneA
  rw [part_all, bigSep_sep']
  iintro ⟨Hc, Hat, HO⟩
  isplitr [HO]
  · isplitl [Hc] <;> iassumption
  iexact HO

/-- They end: the accumulator is whole again. -/
theorem dones_end :
    iprop((accPts m ρ c (shareDrop fullShare 8) ∗ accPts m ρ c (lend c)) ∗ doneSt m ρ c [])
      ⊢ iprop((((c : Thread nD τ).loc cc0_scratch0) ↦{fullShare} acc m ρ c) ∗ (bigSep Finset.univ fun j : Fin 7 => semVal (sendCell c (peer c j)) 0)
          ∗ ∃ W, owes (c : Thread nD τ) 0 W) := by
  unfold doneSt doneB
  rw [part_nil, bigSep_sep', acc_deal, bigSep_peers c (fun t => accPts m ρ c (lend t))]
  iintro ⟨⟨Hd, Hc⟩, ⟨Ha, Hz⟩, HO⟩
  isplitl [Hd Hc Ha]
  · isplitl [Hd]; · iexact Hd
    isplitl [Hc] <;> iassumption
  isplitl [Hz] <;> iassumption

omit [FloatOps F] in
/-- All cells' counters, gathered from the barrier's, the own index's and the peers'. -/
theorem zeros_intro :
    (iprop(semVal (barCell c) 0 ∗ semVal (sendCell c c) 0 ∗ (bigSep Finset.univ fun j : Fin 7 => semVal (sendCell c (peer c j)) 0)
        ∗ semVal (recvCell c c) 0 ∗ bigSep Finset.univ fun j : Fin 7 => semVal (recvCell c (peer c j)) 0) : sProp 𝕄) ⊢ zeros c := by
  unfold zeros
  rw [bigSep_peers c (fun t => (semVal (sendCell c t) 0 : sProp 𝕄)), bigSep_peers c (fun t => (semVal (recvCell c t) 0 : sProp 𝕄))]
  iintro ⟨H1, H2, H3, H4, H5⟩
  isplitl [H1]; · iexact H1
  isplitl [H2 H3]; · isplitl [H2] <;> iassumption
  isplitl [H4] <;> iassumption

end Phases

/-! ## The body -/

section Body

variable (K : Dev nD × CIx → ℕ)

/-- A staging buffer held whole at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from. -/
def bodyPre (c : Dev nD) : sProp 𝕄 :=
  iprop((ghost m ρ K c ∗ creds c ∗ levAts L lv ∗ (∃ f : Buf (Elt F) ((c : Thread nD τ).loc cc0_scratch0), (((c : Thread nD τ).loc cc0_scratch0) ↦{fullShare} f))
      ∗ ∃ f : Buf (Elt F) ((c : Thread nD τ).loc cc0_scratch1), (((c : Thread nD τ).loc cc0_scratch1) ↦{fullShare} f))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- What the body ends with. -/
def bodyPost (c : Dev nD) : sProp 𝕄 :=
  iprop(Φ₁ m ρ c ∗ (dats m ρ 0 c).owesAt () t₀.succ ∗ stg c cc0_stg0_0 (xstg m ρ c) ∗ stg c cc0_stg1_0 (outAt m ρ))

set_option maxHeartbeats 4000000 in
set_option maxRecDepth 20000 in
/-- The body, executed from `bodyPre` to `bodyPost`, one step lemma per effect in program order. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel k0_part9_skel k0_part10_skel k0_part11_skel
  simp only [semSignalWord, semWaitWord, Prog.lift, Prog.bind_op, Prog.bind_ret, Prog.pure_eq_ret, wp_deviceId]
  unfold bodyPre ghost poss payToks creds
  rw [bigSep_peers c (fun t => (atPos ER (sendCell c t) 0 ∅ 0 : sProp 𝕄)), bigSep_peers c (fun t => (atPos ER (recvCell c t) 0 ∅ 0 : sProp 𝕄))]
  iintro ⟨⟨⟨⟨#HR, ⟨HatB, ⟨HatS0, HatS⟩, HatV0, HatV⟩, HtB, HtS, HtV⟩, ⟨HcB, HcV⟩, Hlev, ⟨%fa, Hacc⟩, ⟨%fr, Hrecv⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  ihave H := (signals_begin c fr W) $$ [Hrecv HtB HO]
  · isplitl [Hrecv]; · iexact Hrecv
    isplitl [HtB] <;> iassumption
  icases H with ⟨Hown, Hst⟩
  obtain ⟨e0, e1, e2, e3, e4, e5, e6⟩ := sendDev c
  obtain ⟨s0, s1, s2, s3, s4, s5, s6⟩ := sigDev c
  iapply (signal_step m ρ K c (j := 0) (l := [1, 2, 3, 4, 5, 6]) (by decide) s0) $$ [Hst]
  · isplitr; · iexact HR
    iexact Hst
  iintro Hst
  iapply (signal_step m ρ K c (j := 1) (l := [2, 3, 4, 5, 6]) (by decide) s1) $$ [Hst]
  · isplitr; · iexact HR
    iexact Hst
  iintro Hst
  iapply (signal_step m ρ K c (j := 2) (l := [3, 4, 5, 6]) (by decide) s2) $$ [Hst]
  · isplitr; · iexact HR
    iexact Hst
  iintro Hst
  iapply (signal_step m ρ K c (j := 3) (l := [4, 5, 6]) (by decide) s3) $$ [Hst]
  · isplitr; · iexact HR
    iexact Hst
  iintro Hst
  iapply (signal_step m ρ K c (j := 4) (l := [5, 6]) (by decide) s4) $$ [Hst]
  · isplitr; · iexact HR
    iexact Hst
  iintro Hst
  iapply (signal_step m ρ K c (j := 5) (l := [6]) (by decide) s5) $$ [Hst]
  · isplitr; · iexact HR
    iexact Hst
  iintro Hst
  iapply (signal_step m ρ K c (j := 6) (l := []) (by decide) s6) $$ [Hst]
  · isplitr; · iexact HR
    iexact Hst
  iintro Hst
  iapply (maxima_step m ρ c (f := fa)) $$ [Hx Hacc]
  · isplitl [Hx] <;> iassumption
  iintro ⟨Hx, Hacc⟩
  iapply (own_row_step m ρ c (k0_off1_eq c) rfl (f := fr)) $$ [Hown]
  · iexact Hown
  iintro Hown
  iapply (barrier_step m ρ K c) $$ [Hst HcB HatB Hlev]
  · isplitr; · iexact HR
    isplitl [Hst]; · iexact Hst
    isplitl [HcB]; · iexact HcB
    isplitl [HatB] <;> iassumption
  iintro ⟨Hrows, HO, HzB⟩
  ihave H := (sends_begin m ρ c) $$ [Hacc Hrows HtS HtV HO]
  · isplitl [Hacc]; · iexact Hacc
    isplitl [Hrows]; · iexact Hrows
    isplitl [HtS]; · iexact HtS
    isplitl [HtV] <;> iassumption
  icases H with ⟨Hkeep, Hst⟩
  iapply (send_step m ρ K c (j := 0) (l := [1, 2, 3, 4, 5, 6]) (by decide) e0 (k0_off4_eq c) (off2_eq c 0) (k0_off3_eq c)) $$ [Hst]
  · isplitr; · iexact HR
    iexact Hst
  iintro Hst
  iapply (send_step m ρ K c (j := 1) (l := [2, 3, 4, 5, 6]) (by decide) e1 (k0_off4_eq c) (off2_eq c 1) (k0_off3_eq c)) $$ [Hst]
  · isplitr; · iexact HR
    iexact Hst
  iintro Hst
  iapply (send_step m ρ K c (j := 2) (l := [3, 4, 5, 6]) (by decide) e2 (k0_off4_eq c) (off2_eq c 2) (k0_off3_eq c)) $$ [Hst]
  · isplitr; · iexact HR
    iexact Hst
  iintro Hst
  iapply (send_step m ρ K c (j := 3) (l := [4, 5, 6]) (by decide) e3 (k0_off4_eq c) (off2_eq c 3) (k0_off3_eq c)) $$ [Hst]
  · isplitr; · iexact HR
    iexact Hst
  iintro Hst
  iapply (send_step m ρ K c (j := 4) (l := [5, 6]) (by decide) e4 (k0_off4_eq c) (off2_eq c 4) (k0_off3_eq c)) $$ [Hst]
  · isplitr; · iexact HR
    iexact Hst
  iintro Hst
  iapply (send_step m ρ K c (j := 5) (l := [6]) (by decide) e5 (k0_off4_eq c) (off2_eq c 5) (k0_off3_eq c)) $$ [Hst]
  · isplitr; · iexact HR
    iexact Hst
  iintro Hst
  iapply (send_step m ρ K c (j := 6) (l := []) (by decide) e6 (k0_off4_eq c) (off2_eq c 6) (k0_off3_eq c)) $$ [Hst]
  · isplitr; · iexact HR
    iexact Hst
  iintro Hst
  ihave H := (recvs_begin m ρ c) $$ [Hst HcV HatV]
  · isplitl [Hst]; · iexact Hst
    isplitl [HcV] <;> iassumption
  icases H with ⟨HcS, Hst⟩
  iapply (recv_step m ρ K c (j := 0) (l := [1, 2, 3, 4, 5, 6]) (by decide) (off2_eq c 0) (off5_eq c 0)) $$ [Hst]
  · isplitr; · iexact HR
    iexact Hst
  iintro Hst
  iapply (recv_step m ρ K c (j := 1) (l := [2, 3, 4, 5, 6]) (by decide) (off2_eq c 1) (off5_eq c 1)) $$ [Hst]
  · isplitr; · iexact HR
    iexact Hst
  iintro Hst
  iapply (recv_step m ρ K c (j := 2) (l := [3, 4, 5, 6]) (by decide) (off2_eq c 2) (off5_eq c 2)) $$ [Hst]
  · isplitr; · iexact HR
    iexact Hst
  iintro Hst
  iapply (recv_step m ρ K c (j := 3) (l := [4, 5, 6]) (by decide) (off2_eq c 3) (off5_eq c 3)) $$ [Hst]
  · isplitr; · iexact HR
    iexact Hst
  iintro Hst
  iapply (recv_step m ρ K c (j := 4) (l := [5, 6]) (by decide) (off2_eq c 4) (off5_eq c 4)) $$ [Hst]
  · isplitr; · iexact HR
    iexact Hst
  iintro Hst
  iapply (recv_step m ρ K c (j := 5) (l := [6]) (by decide) (off2_eq c 5) (off5_eq c 5)) $$ [Hst]
  · isplitr; · iexact HR
    iexact Hst
  iintro Hst
  iapply (recv_step m ρ K c (j := 6) (l := []) (by decide) (off2_eq c 6) (off5_eq c 6)) $$ [Hst]
  · isplitr; · iexact HR
    iexact Hst
  iintro Hst
  ihave H := (recvs_end m ρ c) $$ [Hown Hst]
  · isplitl [Hown] <;> iassumption
  icases H with ⟨Hrecv, HzV, HO⟩
  iapply (result_step m ρ c (f := g1)) $$ [Hrecv Hout]
  · isplitl [Hrecv] <;> iassumption
  iintro ⟨Hrecv, Hout⟩
  ihave Hst := (dones_begin m ρ c) $$ [HcS HatS HO]
  · isplitl [HcS]; · iexact HcS
    isplitl [HatS] <;> iassumption
  iapply (done_step m ρ K c (j := 0) (l := [1, 2, 3, 4, 5, 6]) (by decide) (off2_eq c 0)) $$ [Hst]
  · isplitr; · iexact HR
    iexact Hst
  iintro Hst
  iapply (done_step m ρ K c (j := 1) (l := [2, 3, 4, 5, 6]) (by decide) (off2_eq c 1)) $$ [Hst]
  · isplitr; · iexact HR
    iexact Hst
  iintro Hst
  iapply (done_step m ρ K c (j := 2) (l := [3, 4, 5, 6]) (by decide) (off2_eq c 2)) $$ [Hst]
  · isplitr; · iexact HR
    iexact Hst
  iintro Hst
  iapply (done_step m ρ K c (j := 3) (l := [4, 5, 6]) (by decide) (off2_eq c 3)) $$ [Hst]
  · isplitr; · iexact HR
    iexact Hst
  iintro Hst
  iapply (done_step m ρ K c (j := 4) (l := [5, 6]) (by decide) (off2_eq c 4)) $$ [Hst]
  · isplitr; · iexact HR
    iexact Hst
  iintro Hst
  iapply (done_step m ρ K c (j := 5) (l := [6]) (by decide) (off2_eq c 5)) $$ [Hst]
  · isplitr; · iexact HR
    iexact Hst
  iintro Hst
  iapply (done_step m ρ K c (j := 6) (l := []) (by decide) (off2_eq c 6)) $$ [Hst]
  · isplitr; · iexact HR
    iexact Hst
  iintro Hst
  ihave H := (dones_end m ρ c) $$ [Hkeep Hst]
  · isplitl [Hkeep] <;> iassumption
  icases H with ⟨Hacc, HzS, ⟨%W', HO⟩⟩
  unfold runs; rw [wp_ret]
  imod (self_close m ρ K c false) $$ [HatS0] with HzS0
  · isplitr; · iexact HR
    iexact HatS0
  imod (self_close m ρ K c true) $$ [HatV0] with HzV0
  · isplitr; · iexact HR
    iexact HatV0
  imodintro
  iapply Hk
  unfold bodyPost Φ₁ Dat.owesAt Pipeline.owesWithin
  isplitl [Hacc Hrecv HzB HzS0 HzS HzV0 HzV]
  · isplitl [Hacc]; · iexact Hacc
    isplitl [Hrecv]; · iexact Hrecv
    iapply (zeros_intro c)
    isplitl [HzB]; · iexact HzB
    isplitl [HzS0]; · iexact HzS0
    isplitl [HzS]; · iexact HzS
    isplitl [HzV0] <;> iassumption
  isplitl [HO]
  · iexists W'
    isplitr; · ipureintro; exact fun _ _ => Or.inl trivial
    iexact HO
  isplitl [Hx]
  · iexists xstg m ρ c
    isplitr; · ipureintro; rfl
    iexact Hx
  iexists outAt m ρ
  isplitr; · ipureintro; rfl
  iexact Hout

/-- What the pipeline hands the body. -/
def given (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 40000 in
/-- The pipeline's obligation for the body on device `c`. -/
theorem body_obligation (c : Dev nD) : BodyObligation (dats (F := F) m ρ 0 c) (defs₀ (F := F)) 𝒱₀ () Set.univ := fun t => by
  rw [fin_N t, bigSep_W, bigSep_W]
  simp only [owns_whole_eq]
  show given m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3)
    (fun _ => bodyPost m ρ c)
  unfold given Φ₀ start
  iintro ⟨⟨⟨⟨%K, Hg⟩, Hc, Hlev⟩, Ha, Hr⟩, Ho, Hx, Hout⟩
  iapply (sound_body m ρ K c fun _ => bodyPost m ρ c)
  unfold bodyPre
  isplitr []
  · isplitl [Hg Hc Hlev Ha Hr]
    · isplitl [Hg]; · iexact Hg
      isplitl [Hc]; · iexact Hc
      isplitl [Hlev]; · iexact Hlev
      isplitl [Ha]; · iexact Ha
      iexact Hr
    isplitl [Ho]; · iexact Ho
    isplitl [Hx]; · iexact Hx
    iexact Hout
  · iintro H; iexact H

end Body

end Cert.KernelIdeal.Ex

end
-- ==== Proof.LaunchKernelIdeal.lean ====
/-
# The launch

From zero counters and the launch's ghost state to each device's start, and the run of the whole program: every execution
ends, the result array holds on every device what `outAt` says, the argument is unchanged and every semaphore is zero.
-/
module

public import proofs.«01_k».proof.Proof.BodyKernelIdeal
public import Idealize.ShloMosaic.Lib.Pipeline.CollectiveSegs

@[expose] public section

noncomputable section

namespace Cert.KernelIdeal.Ex

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and their tokens -/

/-- The kernel's own semaphores: sixteen, one of each kind per device. -/
abbrev osem (k : Bool × Dev nD) : SemLoc sig := csem (some k)

set_option maxRecDepth 8000 in
/-- The sixteen semaphores are different, and none of them stages a window. -/
theorem ownSemFacts : Pipeline.OwnSemFacts cfg0.spec osem := by decide

/-- Every array is held whole. -/
theorem share_eq (c : Dev nD) (w : Fin cfg0.W) : (dats m ρ 0 c).share w = fullShare := by unfold Dat.share; split <;> rfl

/-- The cells of all devices. -/
def allCells : Finset (GSem nD τ sig) := Finset.univ.map ⟨kcell, kcell_injective⟩

/-- The cell of a kind for a peer. -/
def cellAt (i : Fin 3) (t : Dev nD) : CIx := match i with
  | 0 => none | 1 => some (false, t) | 2 => some (true, t)

/-- The duties of a device's own cells: for each kind and each peer one, in the peer's name. -/
abbrev tokOf (x : Dev nD × Fin 3 × Fin 7) : GSem nD τ sig × ℕ × Dev nD := (kcell (x.1, cellAt x.2.1 (peer x.1 x.2.2)), 0, peer x.1 x.2.2)
/-- Different duties have different tokens. -/
theorem tokOf_injective : Function.Injective tokOf := by
  rintro ⟨c, i, j⟩ ⟨c', i', j'⟩ h
  have hk := kcell_injective (congrArg Prod.fst h)
  have h1 : c = c' := congrArg Prod.fst hk
  subst h1
  have h2 : j = j' := peer_inj c (congrArg (fun x => x.2.2) h)
  subst h2
  have h3 : cellAt i (peer c j) = cellAt i' (peer c j) := congrArg Prod.snd hk
  have h4 : i = i' := by fin_cases i <;> fin_cases i' <;> first | rfl | cases h3
  rw [h4]
/-- The tokens of all duties. -/
def allToks : Finset (GSem nD τ sig × ℕ × Dev nD) := Finset.univ.map ⟨tokOf, tokOf_injective⟩

/-- The launch's ghost state: the pipeline's and the exchange's. -/
def u₀ : UU := (initOf (Pipeline.cells cfgs cellOf_inj) (Pipeline.launchToks cfgs cellOf_inj), initOf allCells allToks)

/-- The tokens of the duties of device `c`'s own cells. -/
def toks (c : Dev nD) : sProp 𝕄 :=
  iprop((bigSep Finset.univ fun j : Fin 7 => dutyTok ER (barCell c) 0 (peer c j))
    ∗ (bigSep Finset.univ fun j : Fin 7 => dutyTok ER (sendCell c (peer c j)) 0 (peer c j))
    ∗ bigSep Finset.univ fun j : Fin 7 => dutyTok ER (recvCell c (peer c j)) 0 (peer c j))

/-- What the launch deals device `c`. -/
def G (c : Dev nD) : sProp 𝕄 :=
  iprop((bigSep Finset.univ fun k : CIx => roundState ER (rd m ρ) (kcell (c, k)) 0)
    ∗ (bigSep Finset.univ fun k : CIx => iprop(atPos ER (kcell (c, k)) 0 ∅ 0 ∗ reached ER (kcell (c, k)) 0)) ∗ toks c)

/-- What the allocation of all cells makes of it. -/
def G' (c : Dev nD) : sProp 𝕄 := iprop(∃ K, ghost m ρ K c)

omit [FloatOps F] in
/-- A resource for each of three. -/
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
/-- A resource for each send and receive semaphore, the two kinds apart. -/
theorem bigSep_kinds (Φ : Bool × Dev nD → sProp 𝕄) :
    bigSep Finset.univ Φ = iprop((bigSep Finset.univ fun t : Dev nD => Φ (false, t)) ∗ bigSep Finset.univ fun t : Dev nD => Φ (true, t)) := by
  rw [bigSep_univ_prod, bigSep_univ_eq_bigSepL [false, true] (by decide) (by decide)]; rfl
omit [FloatOps F] in
/-- A device's cells one kind at a time. -/
theorem bigSep_cix (Φ : CIx → sProp 𝕄) :
    bigSep Finset.univ Φ = iprop(Φ none ∗ (bigSep Finset.univ fun t : Dev nD => Φ (some (false, t))) ∗ bigSep Finset.univ fun t : Dev nD => Φ (some (true, t))) := by
  have h : (Finset.univ : Finset CIx).erase none = Finset.univ.map (Function.Embedding.some : (Bool × Dev nD) ↪ CIx) := by decide
  rw [bigSep_univ_at Φ none, h, bigSep_map]
  exact congrArg (fun P => iprop(Φ none ∗ P)) (bigSep_kinds fun k => Φ (some k))

/-- The exchange's ghost state is what every device is dealt. -/
theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : CIx => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_prod, bigSep_fin3]; rfl
  iintro HX
  imod (Rounds.fund ER (rd m ρ) allCells allToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The cells' allocation -/

omit [FloatOps F] in
/-- The kernel's own semaphores at zero: the send and the receive semaphores. -/
theorem ownSems0_eq (c : Dev nD) : (Pipeline.ownSems0 (Ix := Unit) (Name := ℕ) (U := UU) (Lvl := ℕ) (Val := Elt F) (τ := τ) osem c : sProp 𝕄)
    = iprop((bigSep Finset.univ fun t : Dev nD => semVal (sendCell c t) 0) ∗ bigSep Finset.univ fun t : Dev nD => semVal (recvCell c t) 0) := by
  unfold Pipeline.ownSems0; exact bigSep_kinds fun k => semVal (kcell (c, some k)) 0
omit [FloatOps F] in
/-- The one other semaphore is the barrier. -/
theorem unscopedSems0_eq (c : Dev nD) : (unscopedSems0 c : sProp 𝕄) = semVal (barCell c) 0 := by
  unfold unscopedSems0; rw [bigSep_eq_bigSepL_of_eq [SemLoc.reg barS] (by decide) (by decide)]; rfl
omit [FloatOps F] in
/-- A device's cells, all at zero. -/
theorem sems0_eq (c : Dev nD) :
    iprop(unscopedSems0 c ∗ Pipeline.ownSems0 (Ix := Unit) (Name := ℕ) (U := UU) (Lvl := ℕ) (Val := Elt F) (τ := τ) osem c)
      = (bigSep Finset.univ fun k : CIx => semVal (kcell (c, k)) 0 : sProp 𝕄) := by
  rw [ownSems0_eq, unscopedSems0_eq, bigSep_cix]

/-- One device's cells are allocated. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c)) $$ [Hos Hus]
  · isplitl [Hus] <;> iassumption
  imod (show iprop((bigSep Finset.univ fun k : CIx => semVal (kcell (c, k)) 0) ∗ bigSep Finset.univ fun k : CIx => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens to their payers -/

/-- A device and one of its peers, seen from the peer. -/
def swapPeer : Dev nD × Fin 7 ≃ Dev nD × Fin 7 where
  toFun x := (peer x.1 x.2, back x.2)
  invFun x := (peer x.1 x.2, back x.2)
  left_inv x := Prod.ext (peer_back x.1 x.2) (by show back (back x.2) = x.2; generalize x.2 = j; revert j; decide)
  right_inv x := Prod.ext (peer_back x.1 x.2) (by show back (back x.2) = x.2; generalize x.2 = j; revert j; decide)

omit [FloatOps F] in
/-- Over all pairs of a device and a peer, the two may change places. -/
theorem bigSep_swap (Φ : Dev nD → Dev nD → sProp 𝕄) :
    (bigSep Finset.univ fun c : Dev nD => bigSep Finset.univ fun j : Fin 7 => Φ c (peer c j))
      = bigSep Finset.univ fun c : Dev nD => bigSep Finset.univ fun j : Fin 7 => Φ (peer c j) c := by
  rw [← bigSep_univ_prod (fun x : Dev nD × Fin 7 => Φ x.1 (peer x.1 x.2)), ← bigSep_univ_prod (fun x : Dev nD × Fin 7 => Φ (peer x.1 x.2) x.1),
    bigSep_univ_equiv swapPeer]
  exact bigSep_congr fun x _ => congrArg (Φ (peer x.1 x.2)) (peer_back x.1 x.2)

omit [FloatOps F] in
/-- Each token goes to the device that pays its duty. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_swap (fun a b => (dutyTok ER (barCell a) 0 b : sProp 𝕄)),
    bigSep_swap (fun a b => (dutyTok ER (recvCell a b) 0 b : sProp 𝕄))]

omit [FloatOps F] in
/-- A resource that can be copied is given to every member. -/
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- From the cells of every device to the records that all devices share, and the tokens at the devices that pay them. -/
theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CIx => iprop(∃ κ : ℕ, cellInv ER (rd m ρ) κ (kcell ck))),
    bigSep_congr (s := Finset.univ) (fun (c : Dev nD) _ => bigSep_sep' Finset.univ (fun k : CIx => (atPos ER (kcell (c, k)) 0 ∅ 0 : sProp 𝕄)) (fun k => reached ER (kcell (c, k)) 0)),
    bigSep_sep', ← bigSep_univ_prod (fun ck : Dev nD × CIx => (reached ER (kcell ck) 0 : sProp 𝕄))]
  iintro ⟨HI, ⟨Hat, #HR⟩, Htok⟩
  ihave HK := (BI.bigSep_exists_pi Finset.univ (fun (ck : Dev nD × CIx) (κ : ℕ) => (cellInv ER (rd m ρ) κ (kcell ck) : sProp 𝕄))) $$ HI
  icases HK with ⟨%K, #HI⟩
  ihave Htk := (toks_around (F := F)) $$ Htok
  iapply (bigSep_with (R := records m ρ K) (Φ := fun c : Dev nD => iprop(poss c ∗ payToks c)) (Ψ := G' m ρ) fun c _ => by
    unfold G' ghost
    iintro ⟨H1, H2⟩
    iexists K
    isplitl [H1]; · iexact H1
    iexact H2)
  isplitr
  · unfold records; isplitl; · iexact HI
    iexact HR
  · iapply ((Entails.of_eq (bigSep_sep' Finset.univ (fun c : Dev nD => bigSep Finset.univ fun k : CIx => (atPos ER (kcell (c, k)) 0 ∅ 0 : sProp 𝕄)) payToks).symm).trans
      (bigSep_mono fun c _ => show _ ⊢ iprop(poss c ∗ payToks c) from Entails.of_eq (by unfold poss; rw [bigSep_cix])))
    isplitl [Hat]; · iexact Hat
    iexact Htk

/-- All devices' cells are allocated at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- How many of the peers `l` of `d` are `c`. -/
def hits (d c : Dev nD) : List (Fin 7) → ℕ
  | [] => 0
  | j :: l => hits d c l + if peer d j = c then 1 else 0

/-- What `d` owes on receive cell `t` of `c` by its copies to the peers `l`. -/
theorem oweR_recv (d c t : Dev nD) (l : List (Fin 7)) : oweR d l (recvCell c t) () = if d = t then hits d c l * N else 0 := by
  induction l with
  | nil => unfold oweR hits; rw [Nat.zero_mul, ite_self]; rfl
  | cons j l ih =>
    unfold oweR hits
    rw [Pi.add_apply, Finsupp.add_apply, ih, tallyAt_apply]
    by_cases h : d = t
    · subst h
      rw [if_pos rfl, if_pos rfl, Nat.add_mul]
      by_cases h' : peer d j = c
      · subst h'; rw [if_pos ⟨rfl, rfl⟩, if_pos rfl, Nat.one_mul]
      · rw [if_neg (fun ⟨h1, _⟩ => h' (congrArg Prod.fst (kcell_injective h1)).symm), if_neg h', Nat.zero_mul]
    · rw [if_neg h, if_neg h, if_neg (fun ⟨h1, _⟩ => h (by
        have := congrArg Prod.snd (kcell_injective h1)
        exact (congrArg (fun k : CIx => (k.getD (false, d)).2) this).symm))]
/-- A copy owes nothing on a barrier cell. -/
theorem oweR_bar (d c : Dev nD) (l : List (Fin 7)) : oweR d l (barCell c) () = 0 := by
  by_contra h
  obtain ⟨j, hj⟩ := oweR_pos (Nat.pos_of_ne_zero h)
  exact absurd (congrArg Prod.snd (kcell_injective hj)) (by simp)
/-- A signal owes nothing on a receive cell. -/
theorem oweB_recv (d c t : Dev nD) (l : List (Fin 7)) : oweB d l (recvCell c t) () = oweR d all7 (recvCell c t) () := by
  induction l with
  | nil => rfl
  | cons j l ih =>
    unfold oweB
    rw [Pi.add_apply, Finsupp.add_apply, ih, tallyAt_apply,
      if_neg (fun ⟨h1, _⟩ => absurd (congrArg Prod.snd (kcell_injective h1)) (by simp)), Nat.add_zero]
/-- What `d` owes on the barrier cell of `c` by its signals to the peers `l`. -/
theorem oweB_bar (d c : Dev nD) (l : List (Fin 7)) : oweB d l (barCell c) () = hits d c l := by
  induction l with
  | nil => exact oweR_bar d c all7
  | cons j l ih =>
    unfold oweB hits
    rw [Pi.add_apply, Finsupp.add_apply, ih, tallyAt_apply]
    by_cases h' : peer d j = c
    · subst h'; rw [if_pos ⟨rfl, rfl⟩, if_pos rfl]
    · rw [if_neg (fun ⟨h1, _⟩ => h' (congrArg Prod.fst (kcell_injective h1)).symm), if_neg h']

/-- A device is once among the peers of its peer. -/
theorem hits_peer (c : Dev nD) (j : Fin 7) : hits (peer c j) c all7 = 1 := by revert c j; decide
/-- A device is seven times a peer. -/
theorem hits_total (c : Dev nD) : (∑ d : Dev nD, hits d c all7) = 7 := by revert c; decide

/-- Each peer adds one unit to the barrier. -/
theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => show O₀ d (barCell c) () = _ from oweB_bar d c all7, hits_total]

/-- Receive semaphore `t` gets the one row of device `t`. -/
theorem launch_recv (c : Dev nD) (j : Fin 7) :
    tallyOn (recvCell c (peer c j)) (launchCredit (Pipeline.owing O₀) 0 (recvCell c (peer c j))) = (tallyAt (recvCell c (peer c j)) () N : CellTallies nD τ sig Unit) := by
  unfold tallyAt; refine congrArg _ (Finsupp.ext fun u => ?_); cases u
  rw [Pipeline.launchCredit_owing, Finsupp.single_eq_same,
    Finset.sum_congr rfl fun d _ => show O₀ d (recvCell c (peer c j)) () = _ from (oweB_recv d c (peer c j) all7).trans (oweR_recv d c (peer c j) all7),
    Finset.sum_ite_eq' Finset.univ (peer c j) fun d => hits d c all7 * N, if_pos (Finset.mem_univ _), hits_peer, Nat.one_mul]

/-- The receive semaphores of the peers. -/
def recvEmb (c : Dev nD) : Fin 7 ↪ SemLoc sig := ⟨fun j => csem (some (true, peer c j)), fun a b h =>
  peer_inj c (by have := Option.some.inj (csem_injective h); exact congrArg Prod.snd this)⟩

omit [FloatOps F] in
/-- The launch's credit is a device's credit. -/
theorem creds_intro (c : Dev nD) : (Pipeline.launchCred O₀ c : sProp 𝕄) ⊢ creds c := by
  unfold Pipeline.launchCred creds
  rw [bigSep_univ_at _ (csem none), launch_bar]
  refine sep_mono_right ((bigSep_subset (t := Finset.univ.map (recvEmb c)) fun x hx => ?_).trans ?_)
  · obtain ⟨j, -, rfl⟩ := Finset.mem_map.mp hx
    exact Finset.mem_erase.mpr ⟨fun h => absurd (csem_injective (a₁ := some (true, peer c j)) (a₂ := none) h) (by simp), Finset.mem_univ _⟩
  · rw [bigSep_map]
    exact bigSep_mono fun j _ => Entails.of_eq (congrArg (fun x => (cred x : sProp 𝕄)) (launch_recv c j))

/-! ## The launch's side conditions -/

/-- Every device gets its start. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

/-- The start and the scratch buffers are the state before the body. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

/-- The state after the body gives back the scratch buffers and every semaphore at zero. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁ zeros
  iintro ⟨Ha, Hr, HzB, HzS, HzV⟩
  isplitl [HzB]; · iexact HzB
  isplitl [HzS HzV]
  · isplitl [HzS] <;> iassumption
  isplitl [Ha]
  · iexists acc m ρ c; iexact Ha
  iexists gath m ρ; iexact Hr

/-- The pipeline's own waits are allowed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- An array's contents after the run. -/
def finalA (c : Dev nD) (w : Fin cfg0.W) : Buf (Elt F) ((cfg0.win w).arr.view.loc (c : Thread nD τ)) := (dats m ρ 0 c).arrAt w cfg0.N

/-- Every device ends with its arrays at those contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, every weakly fair execution of the program on the eight devices ends, with each
    device's arrays at the computed contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument after the run holds what it held. -/
theorem final_arg (c : Dev nD) : finalA m ρ c (0 : Fin 2) = m ((c : Thread nD τ).loc main_arg0) :=
  (dats (F := F) m ρ 0 c).arrAt_in (0 : Fin 2) rfl _

end Cert.KernelIdeal.Ex

end
-- ==== Proof.Value.lean ====
/-
# The value of the result

On each device the kernel's result is the maximum over the eight devices of the column maxima of their blocks; the reference's is
the column maxima of the whole array. The blocks are the array's rows, 512 to a device, so the two agree.
-/
module

public import proofs.«01_k».proof.Proof.LaunchKernelIdeal
public import proofs.«01_k».proof.ReferenceIdeal
public import Idealize.ShloMosaic.Lib.Layout
public import Idealize.ShloMosaic.PureOps.Ideal.Laws

@[expose] public section

noncomputable section

namespace Cert.KernelIdeal.Ex

open Cert.KernelIdeal Cert.KernelIdeal.Gen

open Idealize.ShloMosaic
open Idealize.ShloMosaic.TcCoe
open Idealize.SL.Sem

variable (m : (ℓ : Loc nD τ sig) → Buf (Elt Ideal) ℓ) (ρ : Dev nD → PrngReg)

/-! ## The arrays after the run -/

/-- The staging buffer holds the device's whole block. -/
theorem xstg_eq (c : Dev nD) : xstg m ρ c = m ((c : Thread nD τ).loc main_arg0) := by
  funext i
  unfold xstg
  rw [View.read_apply]
  refine congrArg (m ((c : Thread nD τ).loc main_arg0)) ?_
  funext a
  refine Fin.ext ?_
  fin_cases a <;> (show 0 + 1 * _ = _; omega)

/-- After the run the result array holds `outAt` on every device. -/
theorem final_out (c : Dev nD) : finalA m ρ c (1 : Fin 2) = outAt m ρ := by
  funext i
  refine ((dats m ρ 0 c).arrAt_emb_eq_after_last (1 : Fin 2) t₀ (show win0_1.WholeAt t₀ by decide +kernel) i).trans ?_
  rfl

/-! ## Maxima, by their upper bounds -/

/-- A maximum over the coordinates of one axis is below a bound if the start value and every element are. -/
theorem fold_max_below {n : ℕ} (b : EReal) (f : Fin n → EReal) (u : EReal) :
    (Finset.univ : Finset (Fin n)).fold max b f ≤ u ↔ b ≤ u ∧ ∀ k, f k ≤ u := by
  rw [Finset.fold_max_le]; simp

/-- The start value of every maximum here. -/
abbrev bot : EReal := (FloatOps.ofBits (F := Ideal) .f32 0xFF800000#32 : Ideal .f32)

/-- A maximum along one axis, below a bound. -/
theorem reduction_below {s t : Shape} {a : Fin s.rank} (src : FVec Ideal s .f32) (h : Shape.Reduces s [a] t) (hφ : FKind.Formats .f32)
    (hacc : (0xFF800000#32 : BitVec 32) = FKind.maximumf.neutral .f32 hφ) (j : t.Idx) (u : EReal) :
    (show EReal from multiReduction .maximumf [a] t src 0xFF800000#32 h hφ hacc j) ≤ u
      ↔ bot ≤ u ∧ ∀ k, (show EReal from src (Shape.Reduces.lift h j k)) ≤ u := by
  refine Iff.trans (Eq.to_iff (congrArg (fun z : EReal => z ≤ u) (Ideal.multiReduction_maximumf_single src _ h hφ hacc j))) ?_
  exact fold_max_below _ _ _

/-- The element of a device's block in a row and a column. -/
def inBlock (r : Fin 512) (l : Fin 256) : S512x256.Idx := fun a => match a with
  | ⟨0, _⟩ => ⟨r.val, r.isLt⟩
  | ⟨1, _⟩ => ⟨l.val, l.isLt⟩

/-- The element of a one-row array in a column. -/
def inRow (l : Fin 256) : S1x256.Idx := fun a => match a with
  | ⟨0, _⟩ => ⟨0, Nat.one_pos⟩
  | ⟨1, _⟩ => ⟨l.val, l.isLt⟩

/-- The element of a list of 256 values. -/
def inList (l : Fin 256) : S256.Idx := fun a => match a with
  | ⟨0, _⟩ => ⟨l.val, l.isLt⟩

/-- The element of the receive buffer in a device's row and a column. -/
def inRows (d : Fin 8) (l : Fin 256) : S8x1x256.Idx := fun a => match a with
  | ⟨0, _⟩ => ⟨d.val, d.isLt⟩
  | ⟨1, _⟩ => ⟨0, Nat.one_pos⟩
  | ⟨2, _⟩ => ⟨l.val, l.isLt⟩

/-- The kernel's column maxima of a block are the maximum of the block along the rows. -/
theorem pay2_at (v : FVec Ideal S512x256 .f32) (l : Fin 256) :
    k0_pay2 v (inRow l) = multiReduction .maximumf [0] S256 v 0xFF800000#32 reduces_S512x256_S256 (.inl rfl) rfl (inList l) := by
  unfold k0_pay2
  refine (shapeCast_apply _ _ (inRow l) (inRow l) rfl).trans ?_
  refine shapeCast_apply _ _ (inRow l) (inList l) ?_
  rw [Shape.rowMajor_val_one, Shape.rowMajor_val_two]
  show l.val = 0 * 256 + l.val
  omega

/-- The first cast leaves the block as it is. -/
theorem pay1_eq (v : FVec Ideal S512x256 .f32) : k0_pay1 v = v := by
  unfold k0_pay1
  exact funext fun i => shapeCast_apply v _ i i rfl

/-- A device's column maximum is the maximum of its block along the rows. -/
theorem acc_at (c : Dev nD) (l : Fin 256) :
    acc m ρ c (inRow l) = multiReduction .maximumf [0] S256 (show FVec Ideal S512x256 .f32 from m ((c : Thread nD τ).loc main_arg0)) 0xFF800000#32
      reduces_S512x256_S256 (.inl rfl) rfl (inList l) := by
  unfold acc
  rw [xstg_eq, pay1_eq]
  exact pay2_at _ l

/-- A device's column maximum is below a bound if the start value and every element of the column of its block are. -/
theorem acc_below (c : Dev nD) (l : Fin 256) (u : EReal) :
    (show EReal from acc m ρ c (inRow l)) ≤ u
      ↔ bot ≤ u ∧ ∀ r : Fin 512, (show EReal from m ((c : Thread nD τ).loc main_arg0) (inBlock r l)) ≤ u := by
  rw [acc_at]
  refine (reduction_below _ reduces_S512x256_S256 _ _ _ _).trans (and_congr Iff.rfl (forall_congr' fun r => ?_))
  have h : Shape.Reduces.lift reduces_S512x256_S256 (inList l) r = inBlock r l := by
    funext a; fin_cases a <;> rfl
  rw [h]

/-- Row `d` of the full receive buffer holds device `d`'s column maxima. -/
theorem gath_at (d : Fin 8) (l : Fin 256) : gath m ρ (inRows d l) = acc m ρ d (inRow l) := by
  show k0_pay3 (acc m ρ d) (rowIx (inRows d l)) = _
  unfold k0_pay3
  refine shapeCast_apply _ _ _ (inRow l) ?_
  rw [Shape.rowMajor_val_two, Shape.rowMajor_val_three]
  show 0 * 256 + l.val = (0 * 1 + 0) * 256 + l.val
  omega

/-- The kernel's result is below a bound if the start value and every element of the column on every device are. -/
theorem out_below (l : Fin 256) (u : EReal) :
    (show EReal from outAt m ρ (inRow l)) ≤ u
      ↔ bot ≤ u ∧ ∀ (d : Fin 8) (r : Fin 512), (show EReal from m (((d : Dev nD) : Thread nD τ).loc main_arg0) (inBlock r l)) ≤ u := by
  unfold outAt k0_pay4
  refine (reduction_below _ reduces_S8x1x256_S1x256 _ _ _ _).trans ?_
  have h : ∀ d : Fin 8, Shape.Reduces.lift reduces_S8x1x256_S1x256 (inRow l) d = inRows d l := by
    intro d; funext a; fin_cases a <;> rfl
  constructor
  · rintro ⟨hb, hk⟩
    refine ⟨hb, fun d r => ?_⟩
    have := hk d
    rw [h d, gath_at] at this
    exact ((acc_below m ρ d l u).1 this).2 r
  · rintro ⟨hb, hk⟩
    refine ⟨hb, fun d => ?_⟩
    have q := (acc_below m ρ d l u).2 ⟨hb, hk d⟩
    exact (congrArg (fun z : EReal => z ≤ u) ((congrArg (gath m ρ) (h d)).trans (gath_at m ρ d l))).mpr q

/-! ## The reference's result -/

/-- The element of the whole array in a row and a column. -/
def inWhole (r : Fin 4096) (l : Fin 256) : Cert.ReferenceIdeal.S4096x256.Idx := fun a => match a with
  | ⟨0, _⟩ => ⟨r.val, r.isLt⟩
  | ⟨1, _⟩ => ⟨l.val, l.isLt⟩

/-- The reference's result of a whole array, as its operations compute it. -/
abbrev refOut [Cert.ReferenceIdeal.Facts] (X : FVec Ideal Cert.ReferenceIdeal.S4096x256 .f32) : FVec Ideal Cert.ReferenceIdeal.S1x256 .f32 :=
  broadcastInDim Cert.ReferenceIdeal.S1x256 ![1] Cert.ReferenceIdeal.Facts₀.bcast_S256_S1x256_1
    (Host.reduce FloatOps.maximumf X (constant Cert.ReferenceIdeal.S_ .f32 0xFF800000#32)
      Cert.ReferenceIdeal.Facts₀.reducesTo_S4096x256_S256_d0 Cert.ReferenceIdeal.Facts₀.h_S_)

/-- The whole array loses its rows in the reduction. -/
theorem reduces_whole : Cert.ReferenceIdeal.S4096x256.Reduces [0] Cert.ReferenceIdeal.S256 := by decide

/-- The reference's result is below a bound if the start value and every element of the column are. -/
theorem ref_below [Cert.ReferenceIdeal.Facts] (X : FVec Ideal Cert.ReferenceIdeal.S4096x256 .f32) (l : Fin 256) (u : EReal) :
    (show EReal from refOut X (inRow l)) ≤ u ↔ bot ≤ u ∧ ∀ r : Fin 4096, (show EReal from X (inWhole r l)) ≤ u := by
  have e : refOut X (inRow l) = (Finset.univ : Finset (Fin 4096)).fold max bot (X ∘ Shape.Reduces.lift reduces_whole (inList l)) := by
    refine (broadcastInDim_apply _ _ _ (inRow l) (inList l) ?_).trans ?_
    · intro a; fin_cases a; rfl
    · exact Host.reduce_eq_fold_single FloatOps.maximumf X _ _ reduces_whole _ (inList l)
  refine Iff.trans (Eq.to_iff (congrArg (fun z : EReal => z ≤ u) e)) ?_
  refine (fold_max_below _ _ _).trans (and_congr Iff.rfl (forall_congr' fun r => ?_))
  have h : Shape.Reduces.lift reduces_whole (inList l) r = inWhole r l := by
    funext a; fin_cases a <;> rfl
  show (show EReal from X (Shape.Reduces.lift reduces_whole (inList l) r)) ≤ u ↔ _
  rw [h]

/-! ## The two results agree -/

/-- Every element of a one-row array is the element of its column. -/
theorem inRow_surj (i : S1x256.Idx) : i = inRow ⟨(i 1).val, (i 1).isLt⟩ := by
  funext a
  refine Fin.ext ?_
  match a with
  | ⟨0, _⟩ =>
    have := (i 0).isLt
    change (i 0).val < 1 at this
    show (i 0).val = 0
    omega
  | ⟨1, _⟩ => rfl

/-- If every device holds its 512 rows of the whole array, the kernel's result is the reference's. -/
theorem out_eq_ref [Cert.ReferenceIdeal.Facts] (X : FVec Ideal Cert.ReferenceIdeal.S4096x256 .f32)
    (hT : Layout.Tiles ⟨2, ![512, 256]⟩ ⟨2, ![4096, 256]⟩ 0 8)
    (hX : ∀ c : Dev nD, m ((c : Thread nD τ).loc main_arg0) = Layout.block ⟨2, ![512, 256]⟩ ⟨2, ![4096, 256]⟩ 0 8 c X hT) :
    outAt m ρ = refOut X := by
  have hel : ∀ (d : Fin 8) (r : Fin 512) (l : Fin 256) (q : Fin 4096), q.val = d.val * 512 + r.val →
      m (((d : Dev nD) : Thread nD τ).loc main_arg0) (inBlock r l) = X (inWhole q l) := by
    intro d r l q hq
    refine (congrFun (hX d) (inBlock r l)).trans ?_
    rw [Layout.block_apply]
    refine congrArg X (funext fun a => Fin.ext ?_)
    match a with
    | ⟨0, _⟩ => exact hq.symm
    | ⟨1, _⟩ => rfl
  funext i
  rw [inRow_surj i]
  generalize (⟨(i 1).val, (i 1).isLt⟩ : Fin 256) = l
  refine eq_of_forall_ge_iff (α := EReal) fun u => ?_
  refine (out_below m ρ l u).trans ((and_congr Iff.rfl ?_).trans (ref_below X l u).symm)
  constructor
  · intro h q
    have hq := q.isLt
    have := h ⟨q.val / 512, by omega⟩ ⟨q.val % 512, by omega⟩
    rw [hel _ _ l q (by show q.val = q.val / 512 * 512 + q.val % 512; omega)] at this
    exact this
  · intro h d r
    have := h ⟨d.val * 512 + r.val, by have := d.isLt; have := r.isLt; omega⟩
    rw [← hel d r l _ rfl] at this
    exact this

end Cert.KernelIdeal.Ex

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.LaunchKernel
public import proofs.«01_k».proof.Proof.LaunchKernelIdeal
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel's program, run on the machine's own float values, ends with its argument unchanged and every semaphore at zero. -/
theorem frame_kernel : Cert.quiescent_Kernel := fun m g _ =>
  (θ_run Cert.Kernel.defs _ _).mono (fun r h => ⟨fun c => (h.1 c (0 : Fin 2)).trans (Cert.Kernel.Ex.final_arg m g c), h.2⟩)
    (Cert.Kernel.Ex.run_main (F := Bits) m g)

/-- The kernel's program, run on exact values, ends with its argument unchanged and every semaphore at zero. -/
theorem frame_kernel_ideal : Cert.quiescent_KernelIdeal := fun m g _ =>
  (θ_run Cert.KernelIdeal.defs _ _).mono (fun r h => ⟨fun c => (h.1 c (0 : Fin 2)).trans (Cert.KernelIdeal.Ex.final_arg m g c), h.2⟩)
    (Cert.KernelIdeal.Ex.run_main (F := Ideal) m g)

/-- The reference's program, run on exact values, ends with its argument unchanged; it has no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- On exact values every device of the kernel's program ends with the reference's result of the whole array. -/
theorem value : Cert.algebraic_KernelIdeal_ReferenceIdeal := by
  intro m g m' g' _ hX
  refine ⟨_, ?_, (θ_run Cert.ReferenceIdeal.defs _ _).mono (fun _ h => h 0) (Cert.ReferenceIdeal.Value.run (F := Ideal) m' g')⟩
  exact (θ_run Cert.KernelIdeal.defs _ _).mono
    (fun r h c => ⟨((h.1 c (1 : Fin 2)).trans (Cert.KernelIdeal.Ex.final_out m g c)).trans (Cert.KernelIdeal.Ex.out_eq_ref m g _ _ hX),
      (h.1 c (0 : Fin 2)).trans (Cert.KernelIdeal.Ex.final_arg m g c)⟩)
    (Cert.KernelIdeal.Ex.run_main (F := Ideal) m g)

/-- The five claims together. -/
theorem claim : Cert.Claim :=
  ⟨Cert.Kernel.Gen.facts, Cert.KernelIdeal.Gen.facts, Cert.ReferenceIdeal.Gen.facts,
    frame_kernel, frame_kernel_ideal, frame_reference, trivial, value⟩

end Cert.Proof

end
